-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![4096, 1024]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S1024x1024 : Shape := ⟨2, ![1024, 1024]⟩
abbrev S4x1024x128 : Shape := ⟨3, ![4, 1024, 128]⟩
abbrev S3x1024x128 : Shape := ⟨3, ![3, 1024, 128]⟩
abbrev S8x1024x128 : Shape := ⟨3, ![8, 1024, 128]⟩
abbrev S4 : Shape := ⟨1, ![4]⟩
abbrev S3 : Shape := ⟨1, ![3]⟩
abbrev S5 : Shape := ⟨1, ![5]⟩
abbrev S6 : Shape := ⟨1, ![6]⟩
abbrev S2 : Shape := ⟨1, ![2]⟩
abbrev S8 : Shape := ⟨1, ![8]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1024x1 : Shape := ⟨2, ![1024, 1]⟩
abbrev S1024 : Shape := ⟨1, ![1024]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .local _ .vmem, ⟨0, _⟩ => ⟨S1x1024, .f32⟩
  | .local _ .vmem, ⟨1, _⟩ => ⟨S1024x1024, .f32⟩
  | .local _ .vmem, ⟨2, _⟩ => ⟨S4x1024x128, .f32⟩
  | .local _ .vmem, ⟨3, _⟩ => ⟨S3x1024x128, .bf16⟩
  | .local _ .vmem, ⟨4, _⟩ => ⟨S3x1024x128, .bf16⟩
  | .local _ .vmem, ⟨5, _⟩ => ⟨S8x1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v13 : BitVec 32 := Scalar.addi v8 c0_i32
  let c4_i32_4 : BitVec 32 := 4#32
  let v14 : BitVec 32 := Scalar.remsi v13 c4_i32_4
  let c1024_i32 : BitVec 32 := 1024#32
  let v15 : BitVec 32 := Scalar.muli v14 c1024_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c128_i32 : BitVec 32 := 128#32
  let v12 : BitVec 32 := Scalar.muli v10 c128_i32
  ![v15.toNat, v12.toNat]
def k0_dev1 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v48 : BitVec 32 := Scalar.muli v2 c16_i32_32
  let v49 : BitVec 32 := Scalar.addi c0_i32_33 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v50 : BitVec 32 := Scalar.muli v5 c4_i32_34
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v46 : BitVec 32 := Scalar.addi v8 c1_i32_29
  let c4_i32_30 : BitVec 32 := 4#32
  let v47 : BitVec 32 := Scalar.remsi v46 c4_i32_30
  let c1_i32_35 : BitVec 32 := 1#32
  let v52 : BitVec 32 := Scalar.muli v47 c1_i32_35
  let v53 : BitVec 32 := Scalar.addi v51 v52
  v53.toNat
def k0_dev2 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v56 : BitVec 32 := Scalar.muli v2 c16_i32_39
  let v57 : BitVec 32 := Scalar.addi c0_i32_40 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v58 : BitVec 32 := Scalar.muli v5 c4_i32_41
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_36 : BitVec 32 := 2#32
  let v54 : BitVec 32 := Scalar.addi v8 c2_i32_36
  let c4_i32_37 : BitVec 32 := 4#32
  let v55 : BitVec 32 := Scalar.remsi v54 c4_i32_37
  let c1_i32_42 : BitVec 32 := 1#32
  let v60 : BitVec 32 := Scalar.muli v55 c1_i32_42
  let v61 : BitVec 32 := Scalar.addi v59 v60
  v61.toNat
def k0_dev3 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v64 : BitVec 32 := Scalar.muli v2 c16_i32_46
  let v65 : BitVec 32 := Scalar.addi c0_i32_47 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v66 : BitVec 32 := Scalar.muli v5 c4_i32_48
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_43 : BitVec 32 := 3#32
  let v62 : BitVec 32 := Scalar.addi v8 c3_i32_43
  let c4_i32_44 : BitVec 32 := 4#32
  let v63 : BitVec 32 := Scalar.remsi v62 c4_i32_44
  let c1_i32_49 : BitVec 32 := 1#32
  let v68 : BitVec 32 := Scalar.muli v63 c1_i32_49
  let v69 : BitVec 32 := Scalar.addi v67 v68
  v69.toNat
def k0_dev4 (d0 : Dev nD) : Nat :=
  let c0_i32_52 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_51 : BitVec 32 := 16#32
  let v70 : BitVec 32 := Scalar.muli v11 c16_i32_51
  let v71 : BitVec 32 := Scalar.addi c0_i32_52 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v72 : BitVec 32 := Scalar.muli v5 c4_i32_53
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v74 : BitVec 32 := Scalar.muli v8 c1_i32_54
  let v75 : BitVec 32 := Scalar.addi v73 v74
  v75.toNat
def k0_dev5 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v85 : BitVec 32 := Scalar.muli v2 c16_i32_62
  let v86 : BitVec 32 := Scalar.addi c0_i32_63 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v76 : BitVec 32 := Scalar.addi v5 c_m2_i32
  let c0_i32_55 : BitVec 32 := 0#32
  let v77 : BitVec 1 := Scalar.cmpi .sge v76 c0_i32_55
  let c_m2_i32_56 : BitVec 32 := 4294967294#32
  let v78 : BitVec 32 := Scalar.addi v5 c_m2_i32_56
  let c4_i32_57 : BitVec 32 := 4#32
  let v79 : BitVec 1 := Scalar.cmpi .slt v78 c4_i32_57
  let v80 : BitVec 1 := Scalar.andi v77 v79
  let c3_i32_60 : BitVec 32 := 3#32
  let c0_i32_59 : BitVec 32 := 0#32
  let c_m2_i32_58 : BitVec 32 := 4294967294#32
  let v81 : BitVec 32 := Scalar.addi v5 c_m2_i32_58
  let v82 : BitVec 32 := Scalar.maxsi c0_i32_59 v81
  let v83 : BitVec 32 := Scalar.minsi c3_i32_60 v82
  let v84 : BitVec 32 := Scalar.select v80 v83 v5
  let c4_i32_64 : BitVec 32 := 4#32
  let v87 : BitVec 32 := Scalar.muli v84 c4_i32_64
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v89 : BitVec 32 := Scalar.muli v8 c1_i32_65
  let v90 : BitVec 32 := Scalar.addi v88 v89
  v90.toNat
def k0_dev6 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v100 : BitVec 32 := Scalar.muli v2 c16_i32_73
  let v101 : BitVec 32 := Scalar.addi c0_i32_74 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v91 : BitVec 32 := Scalar.addi v5 c_m1_i32
  let c0_i32_66 : BitVec 32 := 0#32
  let v92 : BitVec 1 := Scalar.cmpi .sge v91 c0_i32_66
  let c_m1_i32_67 : BitVec 32 := 4294967295#32
  let v93 : BitVec 32 := Scalar.addi v5 c_m1_i32_67
  let c4_i32_68 : BitVec 32 := 4#32
  let v94 : BitVec 1 := Scalar.cmpi .slt v93 c4_i32_68
  let v95 : BitVec 1 := Scalar.andi v92 v94
  let c3_i32_71 : BitVec 32 := 3#32
  let c0_i32_70 : BitVec 32 := 0#32
  let c_m1_i32_69 : BitVec 32 := 4294967295#32
  let v96 : BitVec 32 := Scalar.addi v5 c_m1_i32_69
  let v97 : BitVec 32 := Scalar.maxsi c0_i32_70 v96
  let v98 : BitVec 32 := Scalar.minsi c3_i32_71 v97
  let v99 : BitVec 32 := Scalar.select v95 v98 v5
  let c4_i32_75 : BitVec 32 := 4#32
  let v102 : BitVec 32 := Scalar.muli v99 c4_i32_75
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v104 : BitVec 32 := Scalar.muli v8 c1_i32_76
  let v105 : BitVec 32 := Scalar.addi v103 v104
  v105.toNat
def k0_dev7 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v115 : BitVec 32 := Scalar.muli v2 c16_i32_85
  let v116 : BitVec 32 := Scalar.addi c0_i32_86 v115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_77 : BitVec 32 := 1#32
  let v106 : BitVec 32 := Scalar.addi v5 c1_i32_77
  let c0_i32_78 : BitVec 32 := 0#32
  let v107 : BitVec 1 := Scalar.cmpi .sge v106 c0_i32_78
  let c1_i32_79 : BitVec 32 := 1#32
  let v108 : BitVec 32 := Scalar.addi v5 c1_i32_79
  let c4_i32_80 : BitVec 32 := 4#32
  let v109 : BitVec 1 := Scalar.cmpi .slt v108 c4_i32_80
  let v110 : BitVec 1 := Scalar.andi v107 v109
  let c3_i32_83 : BitVec 32 := 3#32
  let c0_i32_82 : BitVec 32 := 0#32
  let c1_i32_81 : BitVec 32 := 1#32
  let v111 : BitVec 32 := Scalar.addi v5 c1_i32_81
  let v112 : BitVec 32 := Scalar.maxsi c0_i32_82 v111
  let v113 : BitVec 32 := Scalar.minsi c3_i32_83 v112
  let v114 : BitVec 32 := Scalar.select v110 v113 v5
  let c4_i32_87 : BitVec 32 := 4#32
  let v117 : BitVec 32 := Scalar.muli v114 c4_i32_87
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v119 : BitVec 32 := Scalar.muli v8 c1_i32_88
  let v120 : BitVec 32 := Scalar.addi v118 v119
  v120.toNat
def k0_dev8 (d0 : Dev nD) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v130 : BitVec 32 := Scalar.muli v2 c16_i32_97
  let v131 : BitVec 32 := Scalar.addi c0_i32_98 v130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_89 : BitVec 32 := 2#32
  let v121 : BitVec 32 := Scalar.addi v5 c2_i32_89
  let c0_i32_90 : BitVec 32 := 0#32
  let v122 : BitVec 1 := Scalar.cmpi .sge v121 c0_i32_90
  let c2_i32_91 : BitVec 32 := 2#32
  let v123 : BitVec 32 := Scalar.addi v5 c2_i32_91
  let c4_i32_92 : BitVec 32 := 4#32
  let v124 : BitVec 1 := Scalar.cmpi .slt v123 c4_i32_92
  let v125 : BitVec 1 := Scalar.andi v122 v124
  let c3_i32_95 : BitVec 32 := 3#32
  let c0_i32_94 : BitVec 32 := 0#32
  let c2_i32_93 : BitVec 32 := 2#32
  let v126 : BitVec 32 := Scalar.addi v5 c2_i32_93
  let v127 : BitVec 32 := Scalar.maxsi c0_i32_94 v126
  let v128 : BitVec 32 := Scalar.minsi c3_i32_95 v127
  let v129 : BitVec 32 := Scalar.select v125 v128 v5
  let c4_i32_99 : BitVec 32 := 4#32
  let v132 : BitVec 32 := Scalar.muli v129 c4_i32_99
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v134 : BitVec 32 := Scalar.muli v8 c1_i32_100
  let v135 : BitVec 32 := Scalar.addi v133 v134
  v135.toNat
def k0_dev9 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v149 : BitVec 32 := Scalar.muli v2 c16_i32_115
  let v150 : BitVec 32 := Scalar.addi c0_i32_116 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v151 : BitVec 32 := Scalar.muli v5 c4_i32_117
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v136 : BitVec 32 := Scalar.addi v8 c1_i32_101
  let c4_i32_102 : BitVec 32 := 4#32
  let v137 : BitVec 32 := Scalar.remsi v136 c4_i32_102
  let c1_i32_118 : BitVec 32 := 1#32
  let v153 : BitVec 32 := Scalar.muli v137 c1_i32_118
  let v154 : BitVec 32 := Scalar.addi v152 v153
  v154.toNat
def k0_dev10 (d0 : Dev nD) : Nat :=
  let c0_i32_139 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_138 : BitVec 32 := 16#32
  let v176 : BitVec 32 := Scalar.muli v2 c16_i32_138
  let v177 : BitVec 32 := Scalar.addi c0_i32_139 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_140 : BitVec 32 := 4#32
  let v178 : BitVec 32 := Scalar.muli v5 c4_i32_140
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_123 : BitVec 32 := 2#32
  let v163 : BitVec 32 := Scalar.addi v8 c2_i32_123
  let c4_i32_124 : BitVec 32 := 4#32
  let v164 : BitVec 32 := Scalar.remsi v163 c4_i32_124
  let c1_i32_141 : BitVec 32 := 1#32
  let v180 : BitVec 32 := Scalar.muli v164 c1_i32_141
  let v181 : BitVec 32 := Scalar.addi v179 v180
  v181.toNat
def k0_dev11 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v203 : BitVec 32 := Scalar.muli v2 c16_i32_161
  let v204 : BitVec 32 := Scalar.addi c0_i32_162 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_163 : BitVec 32 := 4#32
  let v205 : BitVec 32 := Scalar.muli v5 c4_i32_163
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_146 : BitVec 32 := 3#32
  let v190 : BitVec 32 := Scalar.addi v8 c3_i32_146
  let c4_i32_147 : BitVec 32 := 4#32
  let v191 : BitVec 32 := Scalar.remsi v190 c4_i32_147
  let c1_i32_164 : BitVec 32 := 1#32
  let v207 : BitVec 32 := Scalar.muli v191 c1_i32_164
  let v208 : BitVec 32 := Scalar.addi v206 v207
  v208.toNat
def k0_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v273 : Index := Scalar.indexCast v10
  let c0_221 : Index := 0#32
  let c0_222 : Index := 0#32
  ![v273.toNat, 0, 0]
def k0_off3 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  ![v10.toNat]
def k0_off4 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_228 : BitVec 32 := 0#32
  let c0_i32_229 : BitVec 32 := 0#32
  ![v10.toNat, 0, 0]
def k0_dev12 (d0 : Dev nD) : Nat :=
  let c0_i32_225 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_224 : BitVec 32 := 16#32
  let v277 : BitVec 32 := Scalar.muli v11 c16_i32_224
  let v278 : BitVec 32 := Scalar.addi c0_i32_225 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_226 : BitVec 32 := 4#32
  let v279 : BitVec 32 := Scalar.muli v5 c4_i32_226
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v281 : BitVec 32 := Scalar.muli v8 c1_i32_227
  let v282 : BitVec 32 := Scalar.addi v280 v281
  v282.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_232 : BitVec 32 := 1#32
  let v291 : BitVec 32 := Scalar.addi v5 c1_i32_232
  let c0_i32_233 : BitVec 32 := 0#32
  let v292 : BitVec 1 := Scalar.cmpi .sge v291 c0_i32_233
  let c1_i32_234 : BitVec 32 := 1#32
  let v293 : BitVec 32 := Scalar.addi v5 c1_i32_234
  let c4_i32_235 : BitVec 32 := 4#32
  let v294 : BitVec 1 := Scalar.cmpi .slt v293 c4_i32_235
  let v295 : BitVec 1 := Scalar.andi v292 v294
  let v300 : BitVec 32 := Scalar.extui v295
  let c0_i32_240 : BitVec 32 := 0#32
  let v301 : BitVec 1 := Scalar.cmpi .ne v300 c0_i32_240
  v301

def k0_off5 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  ![v10.toNat]
def k0_off6 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_509 : BitVec 32 := 0#32
  let c0_i32_510 : BitVec 32 := 0#32
  ![v10.toNat, 0, 0]
def k0_dev13 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_232 : BitVec 32 := 1#32
  let v291 : BitVec 32 := Scalar.addi v5 c1_i32_232
  let c0_i32_233 : BitVec 32 := 0#32
  let v292 : BitVec 1 := Scalar.cmpi .sge v291 c0_i32_233
  let c1_i32_234 : BitVec 32 := 1#32
  let v293 : BitVec 32 := Scalar.addi v5 c1_i32_234
  let c4_i32_235 : BitVec 32 := 4#32
  let v294 : BitVec 1 := Scalar.cmpi .slt v293 c4_i32_235
  let v295 : BitVec 1 := Scalar.andi v292 v294
  let c3_i32_238 : BitVec 32 := 3#32
  let c0_i32_237 : BitVec 32 := 0#32
  let c1_i32_236 : BitVec 32 := 1#32
  let v296 : BitVec 32 := Scalar.addi v5 c1_i32_236
  let v297 : BitVec 32 := Scalar.maxsi c0_i32_237 v296
  let v298 : BitVec 32 := Scalar.minsi c3_i32_238 v297
  let v299 : BitVec 32 := Scalar.select v295 v298 v5
  let c4_i32_507 : BitVec 32 := 4#32
  let v651 : BitVec 32 := Scalar.muli v299 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_241 : BitVec 32 := 2#32
  let v302 : BitVec 32 := Scalar.addi v5 c2_i32_241
  let c0_i32_242 : BitVec 32 := 0#32
  let v303 : BitVec 1 := Scalar.cmpi .sge v302 c0_i32_242
  let c2_i32_243 : BitVec 32 := 2#32
  let v304 : BitVec 32 := Scalar.addi v5 c2_i32_243
  let c4_i32_244 : BitVec 32 := 4#32
  let v305 : BitVec 1 := Scalar.cmpi .slt v304 c4_i32_244
  let v306 : BitVec 1 := Scalar.andi v303 v305
  let v311 : BitVec 32 := Scalar.extui v306
  let c0_i32_249 : BitVec 32 := 0#32
  let v312 : BitVec 1 := Scalar.cmpi .ne v311 c0_i32_249
  v312

def k0_off7 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  ![v10.toNat]
def k0_off8 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_509 : BitVec 32 := 0#32
  let c0_i32_510 : BitVec 32 := 0#32
  ![v10.toNat, 0, 0]
def k0_dev14 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_241 : BitVec 32 := 2#32
  let v302 : BitVec 32 := Scalar.addi v5 c2_i32_241
  let c0_i32_242 : BitVec 32 := 0#32
  let v303 : BitVec 1 := Scalar.cmpi .sge v302 c0_i32_242
  let c2_i32_243 : BitVec 32 := 2#32
  let v304 : BitVec 32 := Scalar.addi v5 c2_i32_243
  let c4_i32_244 : BitVec 32 := 4#32
  let v305 : BitVec 1 := Scalar.cmpi .slt v304 c4_i32_244
  let v306 : BitVec 1 := Scalar.andi v303 v305
  let c3_i32_247 : BitVec 32 := 3#32
  let c0_i32_246 : BitVec 32 := 0#32
  let c2_i32_245 : BitVec 32 := 2#32
  let v307 : BitVec 32 := Scalar.addi v5 c2_i32_245
  let v308 : BitVec 32 := Scalar.maxsi c0_i32_246 v307
  let v309 : BitVec 32 := Scalar.minsi c3_i32_247 v308
  let v310 : BitVec 32 := Scalar.select v306 v309 v5
  let c4_i32_507 : BitVec 32 := 4#32
  let v651 : BitVec 32 := Scalar.muli v310 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_250 : BitVec 32 := 4294967295#32
  let v313 : BitVec 32 := Scalar.addi v5 c_m1_i32_250
  let c0_i32_251 : BitVec 32 := 0#32
  let v314 : BitVec 1 := Scalar.cmpi .sge v313 c0_i32_251
  let c_m1_i32_252 : BitVec 32 := 4294967295#32
  let v315 : BitVec 32 := Scalar.addi v5 c_m1_i32_252
  let c4_i32_253 : BitVec 32 := 4#32
  let v316 : BitVec 1 := Scalar.cmpi .slt v315 c4_i32_253
  let v317 : BitVec 1 := Scalar.andi v314 v316
  let v322 : BitVec 32 := Scalar.extui v317
  let c0_i32_258 : BitVec 32 := 0#32
  let v323 : BitVec 1 := Scalar.cmpi .ne v322 c0_i32_258
  v323

def k0_off9 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  ![v10.toNat]
def k0_off10 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_509 : BitVec 32 := 0#32
  let c0_i32_510 : BitVec 32 := 0#32
  ![v10.toNat, 0, 0]
def k0_dev15 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_250 : BitVec 32 := 4294967295#32
  let v313 : BitVec 32 := Scalar.addi v5 c_m1_i32_250
  let c0_i32_251 : BitVec 32 := 0#32
  let v314 : BitVec 1 := Scalar.cmpi .sge v313 c0_i32_251
  let c_m1_i32_252 : BitVec 32 := 4294967295#32
  let v315 : BitVec 32 := Scalar.addi v5 c_m1_i32_252
  let c4_i32_253 : BitVec 32 := 4#32
  let v316 : BitVec 1 := Scalar.cmpi .slt v315 c4_i32_253
  let v317 : BitVec 1 := Scalar.andi v314 v316
  let c3_i32_256 : BitVec 32 := 3#32
  let c0_i32_255 : BitVec 32 := 0#32
  let c_m1_i32_254 : BitVec 32 := 4294967295#32
  let v318 : BitVec 32 := Scalar.addi v5 c_m1_i32_254
  let v319 : BitVec 32 := Scalar.maxsi c0_i32_255 v318
  let v320 : BitVec 32 := Scalar.minsi c3_i32_256 v319
  let v321 : BitVec 32 := Scalar.select v317 v320 v5
  let c4_i32_507 : BitVec 32 := 4#32
  let v651 : BitVec 32 := Scalar.muli v321 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_259 : BitVec 32 := 4294967294#32
  let v324 : BitVec 32 := Scalar.addi v5 c_m2_i32_259
  let c0_i32_260 : BitVec 32 := 0#32
  let v325 : BitVec 1 := Scalar.cmpi .sge v324 c0_i32_260
  let c_m2_i32_261 : BitVec 32 := 4294967294#32
  let v326 : BitVec 32 := Scalar.addi v5 c_m2_i32_261
  let c4_i32_262 : BitVec 32 := 4#32
  let v327 : BitVec 1 := Scalar.cmpi .slt v326 c4_i32_262
  let v328 : BitVec 1 := Scalar.andi v325 v327
  let v333 : BitVec 32 := Scalar.extui v328
  let c0_i32_267 : BitVec 32 := 0#32
  let v334 : BitVec 1 := Scalar.cmpi .ne v333 c0_i32_267
  v334

def k0_off11 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  ![v10.toNat]
def k0_off12 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_509 : BitVec 32 := 0#32
  let c0_i32_510 : BitVec 32 := 0#32
  ![v10.toNat, 0, 0]
def k0_dev16 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_259 : BitVec 32 := 4294967294#32
  let v324 : BitVec 32 := Scalar.addi v5 c_m2_i32_259
  let c0_i32_260 : BitVec 32 := 0#32
  let v325 : BitVec 1 := Scalar.cmpi .sge v324 c0_i32_260
  let c_m2_i32_261 : BitVec 32 := 4294967294#32
  let v326 : BitVec 32 := Scalar.addi v5 c_m2_i32_261
  let c4_i32_262 : BitVec 32 := 4#32
  let v327 : BitVec 1 := Scalar.cmpi .slt v326 c4_i32_262
  let v328 : BitVec 1 := Scalar.andi v325 v327
  let c3_i32_265 : BitVec 32 := 3#32
  let c0_i32_264 : BitVec 32 := 0#32
  let c_m2_i32_263 : BitVec 32 := 4294967294#32
  let v329 : BitVec 32 := Scalar.addi v5 c_m2_i32_263
  let v330 : BitVec 32 := Scalar.maxsi c0_i32_264 v329
  let v331 : BitVec 32 := Scalar.minsi c3_i32_265 v330
  let v332 : BitVec 32 := Scalar.select v328 v331 v5
  let c4_i32_507 : BitVec 32 := 4#32
  let v651 : BitVec 32 := Scalar.muli v332 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_268 : BitVec 32 := 1#32
  let v335 : BitVec 1 := Scalar.cmpi .sge v5 c1_i32_268
  let v351 : BitVec 32 := Scalar.extui v335
  let c0_i32_283 : BitVec 32 := 0#32
  let v352 : BitVec 1 := Scalar.cmpi .ne v351 c0_i32_283
  v352

def k0_off13 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_282 : BitVec 32 := 4#32
  let v349 : BitVec 32 := Scalar.muli v2 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v336 : BitVec 32 := Scalar.subi v5 c1_i32_269
  let v347 : BitVec 32 := Scalar.maxsi c0_i32_280 v336
  let v348 : BitVec 32 := Scalar.minsi c3_i32_281 v347
  let v350 : BitVec 32 := Scalar.addi v349 v348
  ![v350.toNat]
def k0_off14 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_282 : BitVec 32 := 4#32
  let v349 : BitVec 32 := Scalar.muli v2 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v336 : BitVec 32 := Scalar.subi v5 c1_i32_269
  let v347 : BitVec 32 := Scalar.maxsi c0_i32_280 v336
  let v348 : BitVec 32 := Scalar.minsi c3_i32_281 v347
  let v350 : BitVec 32 := Scalar.addi v349 v348
  let c0_i32_510 : BitVec 32 := 0#32
  let c0_i32_511 : BitVec 32 := 0#32
  ![v350.toNat, 0, 0]
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_268 : BitVec 32 := 1#32
  let v335 : BitVec 1 := Scalar.cmpi .sge v5 c1_i32_268
  let v353 : BitVec 32 := Scalar.extui v335
  let c0_i32_285 : BitVec 32 := 0#32
  let v354 : BitVec 1 := Scalar.cmpi .ne v353 c0_i32_285
  v354

def k0_off15 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_282 : BitVec 32 := 4#32
  let v349 : BitVec 32 := Scalar.muli v2 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v336 : BitVec 32 := Scalar.subi v5 c1_i32_269
  let v347 : BitVec 32 := Scalar.maxsi c0_i32_280 v336
  let v348 : BitVec 32 := Scalar.minsi c3_i32_281 v347
  let v350 : BitVec 32 := Scalar.addi v349 v348
  ![v350.toNat]
def k0_off16 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_282 : BitVec 32 := 4#32
  let v349 : BitVec 32 := Scalar.muli v2 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v336 : BitVec 32 := Scalar.subi v5 c1_i32_269
  let v347 : BitVec 32 := Scalar.maxsi c0_i32_280 v336
  let v348 : BitVec 32 := Scalar.minsi c3_i32_281 v347
  let v350 : BitVec 32 := Scalar.addi v349 v348
  let c0_i32_509 : BitVec 32 := 0#32
  let c0_i32_510 : BitVec 32 := 0#32
  ![v350.toNat, 0, 0]
def k0_dev17 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_270 : BitVec 32 := 2#32
  let v337 : BitVec 1 := Scalar.cmpi .sle v5 c2_i32_270
  let v359 : BitVec 32 := Scalar.extui v337
  let c0_i32_289 : BitVec 32 := 0#32
  let v360 : BitVec 1 := Scalar.cmpi .ne v359 c0_i32_289
  v360

def k0_off17 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_288 : BitVec 32 := 4#32
  let v357 : BitVec 32 := Scalar.muli v2 c4_i32_288
  let c3_i32_287 : BitVec 32 := 3#32
  let c0_i32_286 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v338 : BitVec 32 := Scalar.addi v5 c1_i32_271
  let v355 : BitVec 32 := Scalar.maxsi c0_i32_286 v338
  let v356 : BitVec 32 := Scalar.minsi c3_i32_287 v355
  let v358 : BitVec 32 := Scalar.addi v357 v356
  ![v358.toNat]
def k0_off18 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_288 : BitVec 32 := 4#32
  let v357 : BitVec 32 := Scalar.muli v2 c4_i32_288
  let c3_i32_287 : BitVec 32 := 3#32
  let c0_i32_286 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v338 : BitVec 32 := Scalar.addi v5 c1_i32_271
  let v355 : BitVec 32 := Scalar.maxsi c0_i32_286 v338
  let v356 : BitVec 32 := Scalar.minsi c3_i32_287 v355
  let v358 : BitVec 32 := Scalar.addi v357 v356
  let c0_i32_510 : BitVec 32 := 0#32
  let c0_i32_511 : BitVec 32 := 0#32
  ![v358.toNat, 0, 0]
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_270 : BitVec 32 := 2#32
  let v337 : BitVec 1 := Scalar.cmpi .sle v5 c2_i32_270
  let v361 : BitVec 32 := Scalar.extui v337
  let c0_i32_291 : BitVec 32 := 0#32
  let v362 : BitVec 1 := Scalar.cmpi .ne v361 c0_i32_291
  v362

def k0_off19 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_288 : BitVec 32 := 4#32
  let v357 : BitVec 32 := Scalar.muli v2 c4_i32_288
  let c3_i32_287 : BitVec 32 := 3#32
  let c0_i32_286 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v338 : BitVec 32 := Scalar.addi v5 c1_i32_271
  let v355 : BitVec 32 := Scalar.maxsi c0_i32_286 v338
  let v356 : BitVec 32 := Scalar.minsi c3_i32_287 v355
  let v358 : BitVec 32 := Scalar.addi v357 v356
  ![v358.toNat]
def k0_off20 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_288 : BitVec 32 := 4#32
  let v357 : BitVec 32 := Scalar.muli v2 c4_i32_288
  let c3_i32_287 : BitVec 32 := 3#32
  let c0_i32_286 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v338 : BitVec 32 := Scalar.addi v5 c1_i32_271
  let v355 : BitVec 32 := Scalar.maxsi c0_i32_286 v338
  let v356 : BitVec 32 := Scalar.minsi c3_i32_287 v355
  let v358 : BitVec 32 := Scalar.addi v357 v356
  let c0_i32_509 : BitVec 32 := 0#32
  let c0_i32_510 : BitVec 32 := 0#32
  ![v358.toNat, 0, 0]
def k0_dev18 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_272 : BitVec 32 := 2#32
  let v339 : BitVec 1 := Scalar.cmpi .sge v5 c2_i32_272
  let v367 : BitVec 32 := Scalar.extui v339
  let c0_i32_295 : BitVec 32 := 0#32
  let v368 : BitVec 1 := Scalar.cmpi .ne v367 c0_i32_295
  v368

def k0_off21 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  ![v366.toNat]
def k0_off22 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  let c0_i32_510 : BitVec 32 := 0#32
  let c0_i32_511 : BitVec 32 := 0#32
  ![v366.toNat, 0, 0]
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_272 : BitVec 32 := 2#32
  let v339 : BitVec 1 := Scalar.cmpi .sge v5 c2_i32_272
  let v369 : BitVec 32 := Scalar.extui v339
  let c0_i32_297 : BitVec 32 := 0#32
  let v370 : BitVec 1 := Scalar.cmpi .ne v369 c0_i32_297
  v370

def k0_off23 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  ![v366.toNat]
def k0_off24 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  let c0_i32_509 : BitVec 32 := 0#32
  let c0_i32_510 : BitVec 32 := 0#32
  ![v366.toNat, 0, 0]
def k0_dev19 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_272 : BitVec 32 := 2#32
  let v339 : BitVec 1 := Scalar.cmpi .sge v5 c2_i32_272
  let c2_i32_298 : BitVec 32 := 2#32
  let v371 : BitVec 1 := Scalar.cmpi .eq v5 c2_i32_298
  let v372 : BitVec 1 := Scalar.andi v339 v371
  let v373 : BitVec 32 := Scalar.extui v372
  let c0_i32_301 : BitVec 32 := 0#32
  let v374 : BitVec 1 := Scalar.cmpi .ne v373 c0_i32_301
  v374

def k0_off25 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  ![v366.toNat]
def k0_off26 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  let c0_i32_509 : BitVec 32 := 0#32
  let c0_i32_510 : BitVec 32 := 0#32
  ![v366.toNat, 0, 0]
def k0_dev20 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let c3_i32_300 : BitVec 32 := 3#32
  let c4_i32_507 : BitVec 32 := 4#32
  let v651 : BitVec 32 := Scalar.muli c3_i32_300 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_274 : BitVec 32 := 1#32
  let v341 : BitVec 1 := Scalar.cmpi .sle v5 c1_i32_274
  let v379 : BitVec 32 := Scalar.extui v341
  let c0_i32_305 : BitVec 32 := 0#32
  let v380 : BitVec 1 := Scalar.cmpi .ne v379 c0_i32_305
  v380

def k0_off27 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  ![v378.toNat]
def k0_off28 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  let c0_i32_510 : BitVec 32 := 0#32
  let c0_i32_511 : BitVec 32 := 0#32
  ![v378.toNat, 0, 0]
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_274 : BitVec 32 := 1#32
  let v341 : BitVec 1 := Scalar.cmpi .sle v5 c1_i32_274
  let v381 : BitVec 32 := Scalar.extui v341
  let c0_i32_307 : BitVec 32 := 0#32
  let v382 : BitVec 1 := Scalar.cmpi .ne v381 c0_i32_307
  v382

def k0_off29 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  ![v378.toNat]
def k0_off30 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  let c0_i32_509 : BitVec 32 := 0#32
  let c0_i32_510 : BitVec 32 := 0#32
  ![v378.toNat, 0, 0]
def k0_dev21 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_274 : BitVec 32 := 1#32
  let v341 : BitVec 1 := Scalar.cmpi .sle v5 c1_i32_274
  let c1_i32_308 : BitVec 32 := 1#32
  let v383 : BitVec 1 := Scalar.cmpi .eq v5 c1_i32_308
  let v384 : BitVec 1 := Scalar.andi v341 v383
  let v385 : BitVec 32 := Scalar.extui v384
  let c0_i32_311 : BitVec 32 := 0#32
  let v386 : BitVec 1 := Scalar.cmpi .ne v385 c0_i32_311
  v386

def k0_off31 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  ![v378.toNat]
def k0_off32 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  let c0_i32_509 : BitVec 32 := 0#32
  let c0_i32_510 : BitVec 32 := 0#32
  ![v378.toNat, 0, 0]
def k0_dev22 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v649 : BitVec 32 := Scalar.muli v2 c16_i32_505
  let v650 : BitVec 32 := Scalar.addi c0_i32_506 v649
  let c0_i32_310 : BitVec 32 := 0#32
  let c4_i32_507 : BitVec 32 := 4#32
  let v651 : BitVec 32 := Scalar.muli c0_i32_310 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_276 : BitVec 32 := 3#32
  let v343 : BitVec 1 := Scalar.cmpi .eq v5 c3_i32_276
  let v391 : BitVec 32 := Scalar.extui v343
  let c0_i32_315 : BitVec 32 := 0#32
  let v392 : BitVec 1 := Scalar.cmpi .ne v391 c0_i32_315
  v392

def k0_off33 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_314 : BitVec 32 := 4#32
  let v389 : BitVec 32 := Scalar.muli v2 c4_i32_314
  let c3_i32_313 : BitVec 32 := 3#32
  let c0_i32_312 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_277 : BitVec 32 := 3#32
  let v344 : BitVec 32 := Scalar.subi v5 c3_i32_277
  let v387 : BitVec 32 := Scalar.maxsi c0_i32_312 v344
  let v388 : BitVec 32 := Scalar.minsi c3_i32_313 v387
  let v390 : BitVec 32 := Scalar.addi v389 v388
  ![v390.toNat]
def k0_off34 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_314 : BitVec 32 := 4#32
  let v389 : BitVec 32 := Scalar.muli v2 c4_i32_314
  let c3_i32_313 : BitVec 32 := 3#32
  let c0_i32_312 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_277 : BitVec 32 := 3#32
  let v344 : BitVec 32 := Scalar.subi v5 c3_i32_277
  let v387 : BitVec 32 := Scalar.maxsi c0_i32_312 v344
  let v388 : BitVec 32 := Scalar.minsi c3_i32_313 v387
  let v390 : BitVec 32 := Scalar.addi v389 v388
  let c0_i32_510 : BitVec 32 := 0#32
  let c0_i32_511 : BitVec 32 := 0#32
  ![v390.toNat, 0, 0]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_276 : BitVec 32 := 3#32
  let v343 : BitVec 1 := Scalar.cmpi .eq v5 c3_i32_276
  let v393 : BitVec 32 := Scalar.extui v343
  let c0_i32_317 : BitVec 32 := 0#32
  let v394 : BitVec 1 := Scalar.cmpi .ne v393 c0_i32_317
  v394

def k0_off35 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_314 : BitVec 32 := 4#32
  let v389 : BitVec 32 := Scalar.muli v2 c4_i32_314
  let c3_i32_313 : BitVec 32 := 3#32
  let c0_i32_312 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_277 : BitVec 32 := 3#32
  let v344 : BitVec 32 := Scalar.subi v5 c3_i32_277
  let v387 : BitVec 32 := Scalar.maxsi c0_i32_312 v344
  let v388 : BitVec 32 := Scalar.minsi c3_i32_313 v387
  let v390 : BitVec 32 := Scalar.addi v389 v388
  ![v390.toNat]
def k0_off36 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_314 : BitVec 32 := 4#32
  let v389 : BitVec 32 := Scalar.muli v2 c4_i32_314
  let c3_i32_313 : BitVec 32 := 3#32
  let c0_i32_312 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_277 : BitVec 32 := 3#32
  let v344 : BitVec 32 := Scalar.subi v5 c3_i32_277
  let v387 : BitVec 32 := Scalar.maxsi c0_i32_312 v344
  let v388 : BitVec 32 := Scalar.minsi c3_i32_313 v387
  let v390 : BitVec 32 := Scalar.addi v389 v388
  let c0_i32_509 : BitVec 32 := 0#32
  let c0_i32_510 : BitVec 32 := 0#32
  ![v390.toNat, 0, 0]
def k0_dev23 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_278 : BitVec 32 := 0#32
  let v345 : BitVec 1 := Scalar.cmpi .eq v5 c0_i32_278
  let v399 : BitVec 32 := Scalar.extui v345
  let c0_i32_321 : BitVec 32 := 0#32
  let v400 : BitVec 1 := Scalar.cmpi .ne v399 c0_i32_321
  v400

def k0_off37 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_320 : BitVec 32 := 4#32
  let v397 : BitVec 32 := Scalar.muli v2 c4_i32_320
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v346 : BitVec 32 := Scalar.addi v5 c3_i32_279
  let v395 : BitVec 32 := Scalar.maxsi c0_i32_318 v346
  let v396 : BitVec 32 := Scalar.minsi c3_i32_319 v395
  let v398 : BitVec 32 := Scalar.addi v397 v396
  ![v398.toNat]
def k0_off38 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_320 : BitVec 32 := 4#32
  let v397 : BitVec 32 := Scalar.muli v2 c4_i32_320
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v346 : BitVec 32 := Scalar.addi v5 c3_i32_279
  let v395 : BitVec 32 := Scalar.maxsi c0_i32_318 v346
  let v396 : BitVec 32 := Scalar.minsi c3_i32_319 v395
  let v398 : BitVec 32 := Scalar.addi v397 v396
  let c0_i32_510 : BitVec 32 := 0#32
  let c0_i32_511 : BitVec 32 := 0#32
  ![v398.toNat, 0, 0]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_278 : BitVec 32 := 0#32
  let v345 : BitVec 1 := Scalar.cmpi .eq v5 c0_i32_278
  let v401 : BitVec 32 := Scalar.extui v345
  let c0_i32_322 : BitVec 32 := 0#32
  let v402 : BitVec 1 := Scalar.cmpi .ne v401 c0_i32_322
  v402

def k0_off39 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_320 : BitVec 32 := 4#32
  let v397 : BitVec 32 := Scalar.muli v2 c4_i32_320
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v346 : BitVec 32 := Scalar.addi v5 c3_i32_279
  let v395 : BitVec 32 := Scalar.maxsi c0_i32_318 v346
  let v396 : BitVec 32 := Scalar.minsi c3_i32_319 v395
  let v398 : BitVec 32 := Scalar.addi v397 v396
  ![v398.toNat]
def k0_off40 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_320 : BitVec 32 := 4#32
  let v397 : BitVec 32 := Scalar.muli v2 c4_i32_320
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v346 : BitVec 32 := Scalar.addi v5 c3_i32_279
  let v395 : BitVec 32 := Scalar.maxsi c0_i32_318 v346
  let v396 : BitVec 32 := Scalar.minsi c3_i32_319 v395
  let v398 : BitVec 32 := Scalar.addi v397 v396
  let c0_i32_509 : BitVec 32 := 0#32
  let c0_i32_510 : BitVec 32 := 0#32
  ![v398.toNat, 0, 0]
def k0_dev24 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v649 : BitVec 32 := Scalar.muli v11 c16_i32_505
  let v650 : BitVec 32 := Scalar.addi c0_i32_506 v649
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v651 : BitVec 32 := Scalar.muli v5 c4_i32_507
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v653 : BitVec 32 := Scalar.muli v8 c1_i32_508
  let v654 : BitVec 32 := Scalar.addi v652 v653
  v654.toNat
def k0_off41 (d0 : Dev nD) (c0_i32_324 : BitVec 32) : Fin 1 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c4_i32_323 : BitVec 32 := 4#32
  let v403 : BitVec 32 := Scalar.muli v11 c4_i32_323
  let v404 : BitVec 32 := Scalar.addi v403 c0_i32_324
  ![v404.toNat]
def k0_off42 (d0 : Dev nD) (c0_i32_324 : BitVec 32) : Fin 3 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c4_i32_323 : BitVec 32 := 4#32
  let v403 : BitVec 32 := Scalar.muli v11 c4_i32_323
  let v404 : BitVec 32 := Scalar.addi v403 c0_i32_324
  let c0_i32_330 : BitVec 32 := 0#32
  let c0_i32_331 : BitVec 32 := 0#32
  ![v404.toNat, 0, 0]
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_232 : BitVec 32 := 1#32
  let v291 : BitVec 32 := Scalar.addi v5 c1_i32_232
  let c0_i32_233 : BitVec 32 := 0#32
  let v292 : BitVec 1 := Scalar.cmpi .sge v291 c0_i32_233
  let c1_i32_234 : BitVec 32 := 1#32
  let v293 : BitVec 32 := Scalar.addi v5 c1_i32_234
  let c4_i32_235 : BitVec 32 := 4#32
  let v294 : BitVec 1 := Scalar.cmpi .slt v293 c4_i32_235
  let v295 : BitVec 1 := Scalar.andi v292 v294
  let v625 : BitVec 32 := Scalar.extui v295
  let c0_i32_480 : BitVec 32 := 0#32
  let v626 : BitVec 1 := Scalar.cmpi .ne v625 c0_i32_480
  v626

def k0_off43 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_506 : BitVec 32 := 0#32
  let c0_i32_507 : BitVec 32 := 0#32
  ![v10.toNat, 0, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_241 : BitVec 32 := 2#32
  let v302 : BitVec 32 := Scalar.addi v5 c2_i32_241
  let c0_i32_242 : BitVec 32 := 0#32
  let v303 : BitVec 1 := Scalar.cmpi .sge v302 c0_i32_242
  let c2_i32_243 : BitVec 32 := 2#32
  let v304 : BitVec 32 := Scalar.addi v5 c2_i32_243
  let c4_i32_244 : BitVec 32 := 4#32
  let v305 : BitVec 1 := Scalar.cmpi .slt v304 c4_i32_244
  let v306 : BitVec 1 := Scalar.andi v303 v305
  let v627 : BitVec 32 := Scalar.extui v306
  let c0_i32_482 : BitVec 32 := 0#32
  let v628 : BitVec 1 := Scalar.cmpi .ne v627 c0_i32_482
  v628

def k0_off44 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_506 : BitVec 32 := 0#32
  let c0_i32_507 : BitVec 32 := 0#32
  ![v10.toNat, 0, 0]
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_250 : BitVec 32 := 4294967295#32
  let v313 : BitVec 32 := Scalar.addi v5 c_m1_i32_250
  let c0_i32_251 : BitVec 32 := 0#32
  let v314 : BitVec 1 := Scalar.cmpi .sge v313 c0_i32_251
  let c_m1_i32_252 : BitVec 32 := 4294967295#32
  let v315 : BitVec 32 := Scalar.addi v5 c_m1_i32_252
  let c4_i32_253 : BitVec 32 := 4#32
  let v316 : BitVec 1 := Scalar.cmpi .slt v315 c4_i32_253
  let v317 : BitVec 1 := Scalar.andi v314 v316
  let v629 : BitVec 32 := Scalar.extui v317
  let c0_i32_484 : BitVec 32 := 0#32
  let v630 : BitVec 1 := Scalar.cmpi .ne v629 c0_i32_484
  v630

def k0_off45 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_506 : BitVec 32 := 0#32
  let c0_i32_507 : BitVec 32 := 0#32
  ![v10.toNat, 0, 0]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_259 : BitVec 32 := 4294967294#32
  let v324 : BitVec 32 := Scalar.addi v5 c_m2_i32_259
  let c0_i32_260 : BitVec 32 := 0#32
  let v325 : BitVec 1 := Scalar.cmpi .sge v324 c0_i32_260
  let c_m2_i32_261 : BitVec 32 := 4294967294#32
  let v326 : BitVec 32 := Scalar.addi v5 c_m2_i32_261
  let c4_i32_262 : BitVec 32 := 4#32
  let v327 : BitVec 1 := Scalar.cmpi .slt v326 c4_i32_262
  let v328 : BitVec 1 := Scalar.andi v325 v327
  let v631 : BitVec 32 := Scalar.extui v328
  let c0_i32_486 : BitVec 32 := 0#32
  let v632 : BitVec 1 := Scalar.cmpi .ne v631 c0_i32_486
  v632

def k0_off46 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_506 : BitVec 32 := 0#32
  let c0_i32_507 : BitVec 32 := 0#32
  ![v10.toNat, 0, 0]
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_268 : BitVec 32 := 1#32
  let v335 : BitVec 1 := Scalar.cmpi .sge v5 c1_i32_268
  let v633 : BitVec 32 := Scalar.extui v335
  let c0_i32_488 : BitVec 32 := 0#32
  let v634 : BitVec 1 := Scalar.cmpi .ne v633 c0_i32_488
  v634

def k0_off47 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_282 : BitVec 32 := 4#32
  let v349 : BitVec 32 := Scalar.muli v2 c4_i32_282
  let c3_i32_281 : BitVec 32 := 3#32
  let c0_i32_280 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v336 : BitVec 32 := Scalar.subi v5 c1_i32_269
  let v347 : BitVec 32 := Scalar.maxsi c0_i32_280 v336
  let v348 : BitVec 32 := Scalar.minsi c3_i32_281 v347
  let v350 : BitVec 32 := Scalar.addi v349 v348
  let c0_i32_506 : BitVec 32 := 0#32
  let c0_i32_507 : BitVec 32 := 0#32
  ![v350.toNat, 0, 0]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_270 : BitVec 32 := 2#32
  let v337 : BitVec 1 := Scalar.cmpi .sle v5 c2_i32_270
  let v635 : BitVec 32 := Scalar.extui v337
  let c0_i32_490 : BitVec 32 := 0#32
  let v636 : BitVec 1 := Scalar.cmpi .ne v635 c0_i32_490
  v636

def k0_off48 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_288 : BitVec 32 := 4#32
  let v357 : BitVec 32 := Scalar.muli v2 c4_i32_288
  let c3_i32_287 : BitVec 32 := 3#32
  let c0_i32_286 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v338 : BitVec 32 := Scalar.addi v5 c1_i32_271
  let v355 : BitVec 32 := Scalar.maxsi c0_i32_286 v338
  let v356 : BitVec 32 := Scalar.minsi c3_i32_287 v355
  let v358 : BitVec 32 := Scalar.addi v357 v356
  let c0_i32_506 : BitVec 32 := 0#32
  let c0_i32_507 : BitVec 32 := 0#32
  ![v358.toNat, 0, 0]
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_272 : BitVec 32 := 2#32
  let v339 : BitVec 1 := Scalar.cmpi .sge v5 c2_i32_272
  let v637 : BitVec 32 := Scalar.extui v339
  let c0_i32_492 : BitVec 32 := 0#32
  let v638 : BitVec 1 := Scalar.cmpi .ne v637 c0_i32_492
  v638

def k0_off49 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  let c0_i32_506 : BitVec 32 := 0#32
  let c0_i32_507 : BitVec 32 := 0#32
  ![v366.toNat, 0, 0]
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_272 : BitVec 32 := 2#32
  let v339 : BitVec 1 := Scalar.cmpi .sge v5 c2_i32_272
  let c2_i32_298 : BitVec 32 := 2#32
  let v371 : BitVec 1 := Scalar.cmpi .eq v5 c2_i32_298
  let v372 : BitVec 1 := Scalar.andi v339 v371
  let v639 : BitVec 32 := Scalar.extui v372
  let c0_i32_495 : BitVec 32 := 0#32
  let v640 : BitVec 1 := Scalar.cmpi .ne v639 c0_i32_495
  v640

def k0_off50 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_294 : BitVec 32 := 4#32
  let v365 : BitVec 32 := Scalar.muli v2 c4_i32_294
  let c3_i32_293 : BitVec 32 := 3#32
  let c0_i32_292 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v340 : BitVec 32 := Scalar.subi v5 c2_i32_273
  let v363 : BitVec 32 := Scalar.maxsi c0_i32_292 v340
  let v364 : BitVec 32 := Scalar.minsi c3_i32_293 v363
  let v366 : BitVec 32 := Scalar.addi v365 v364
  let c0_i32_506 : BitVec 32 := 0#32
  let c0_i32_507 : BitVec 32 := 0#32
  ![v366.toNat, 0, 0]
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_274 : BitVec 32 := 1#32
  let v341 : BitVec 1 := Scalar.cmpi .sle v5 c1_i32_274
  let v641 : BitVec 32 := Scalar.extui v341
  let c0_i32_497 : BitVec 32 := 0#32
  let v642 : BitVec 1 := Scalar.cmpi .ne v641 c0_i32_497
  v642

def k0_off51 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  let c0_i32_506 : BitVec 32 := 0#32
  let c0_i32_507 : BitVec 32 := 0#32
  ![v378.toNat, 0, 0]
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_274 : BitVec 32 := 1#32
  let v341 : BitVec 1 := Scalar.cmpi .sle v5 c1_i32_274
  let c1_i32_308 : BitVec 32 := 1#32
  let v383 : BitVec 1 := Scalar.cmpi .eq v5 c1_i32_308
  let v384 : BitVec 1 := Scalar.andi v341 v383
  let v643 : BitVec 32 := Scalar.extui v384
  let c0_i32_500 : BitVec 32 := 0#32
  let v644 : BitVec 1 := Scalar.cmpi .ne v643 c0_i32_500
  v644

def k0_off52 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_304 : BitVec 32 := 4#32
  let v377 : BitVec 32 := Scalar.muli v2 c4_i32_304
  let c3_i32_303 : BitVec 32 := 3#32
  let c0_i32_302 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_275 : BitVec 32 := 2#32
  let v342 : BitVec 32 := Scalar.addi v5 c2_i32_275
  let v375 : BitVec 32 := Scalar.maxsi c0_i32_302 v342
  let v376 : BitVec 32 := Scalar.minsi c3_i32_303 v375
  let v378 : BitVec 32 := Scalar.addi v377 v376
  let c0_i32_506 : BitVec 32 := 0#32
  let c0_i32_507 : BitVec 32 := 0#32
  ![v378.toNat, 0, 0]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_276 : BitVec 32 := 3#32
  let v343 : BitVec 1 := Scalar.cmpi .eq v5 c3_i32_276
  let v645 : BitVec 32 := Scalar.extui v343
  let c0_i32_502 : BitVec 32 := 0#32
  let v646 : BitVec 1 := Scalar.cmpi .ne v645 c0_i32_502
  v646

def k0_off53 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_314 : BitVec 32 := 4#32
  let v389 : BitVec 32 := Scalar.muli v2 c4_i32_314
  let c3_i32_313 : BitVec 32 := 3#32
  let c0_i32_312 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_277 : BitVec 32 := 3#32
  let v344 : BitVec 32 := Scalar.subi v5 c3_i32_277
  let v387 : BitVec 32 := Scalar.maxsi c0_i32_312 v344
  let v388 : BitVec 32 := Scalar.minsi c3_i32_313 v387
  let v390 : BitVec 32 := Scalar.addi v389 v388
  let c0_i32_506 : BitVec 32 := 0#32
  let c0_i32_507 : BitVec 32 := 0#32
  ![v390.toNat, 0, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_278 : BitVec 32 := 0#32
  let v345 : BitVec 1 := Scalar.cmpi .eq v5 c0_i32_278
  let v647 : BitVec 32 := Scalar.extui v345
  let c0_i32_504 : BitVec 32 := 0#32
  let v648 : BitVec 1 := Scalar.cmpi .ne v647 c0_i32_504
  v648

def k0_off54 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_320 : BitVec 32 := 4#32
  let v397 : BitVec 32 := Scalar.muli v2 c4_i32_320
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v346 : BitVec 32 := Scalar.addi v5 c3_i32_279
  let v395 : BitVec 32 := Scalar.maxsi c0_i32_318 v346
  let v396 : BitVec 32 := Scalar.minsi c3_i32_319 v395
  let v398 : BitVec 32 := Scalar.addi v397 v396
  let c0_i32_506 : BitVec 32 := 0#32
  let c0_i32_507 : BitVec 32 := 0#32
  ![v398.toNat, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S1x1024 : Shape := ⟨2, ![1, 1024]⟩
abbrev S4x4096x1024 : Shape := ⟨3, ![4, 4096, 1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
module

public import proofs.«01_k».proof.Proof.Gen.KernelIdeal.Skeleton

@[expose] public section

/-! The mesh and the traffic on it, as finite tables: who sends what to whom, and what the program's own
    integer chains compute at each device, in the tables' words. Device `c` sits at `(c/16, c/4 % 4, c % 4)`. -/

namespace Cert.Proof

open Idealize.ShloMosaic Idealize.SL.Sem
open Cert.KernelIdeal Cert.KernelIdeal.Gen

/-! ## Coordinates -/

/-- The position along the axis of size two. -/
abbrev xc (c : Dev nD) : ℕ := c.val / 16
/-- The position along the middle axis. -/
abbrev yc (c : Dev nD) : ℕ := c.val / 4 % 4
/-- The column block a device reduces. -/
def qc (c : Dev nD) : Fin 8 := ⟨c.val / 4, by have h : c.val < 32 := c.isLt; omega⟩
/-- The position along the axis the rows are dealt over. -/
def zc (c : Dev nD) : Fin 4 := ⟨c.val % 4, by omega⟩
/-- The device reducing block `q` at position `z`. -/
def dv (q : Fin 8) (z : Fin 4) : Dev nD := ⟨4 * q.val + z.val, show 4 * q.val + z.val < 32 by have := q.isLt; have := z.isLt; omega⟩

theorem dv_qc_zc : ∀ c : Dev nD, dv (qc c) (zc c) = c := by decide +kernel

/-- The device `n + 1` places on along the last axis. -/
def zp (c : Dev nD) (n : Fin 3) : Dev nD := dv (qc c) ⟨(c.val + n.val + 1) % 4, by omega⟩
/-- The device across the axis of size two. -/
def xp (c : Dev nD) : Dev nD := ⟨(c.val + 16) % 32, Nat.mod_lt _ (by decide)⟩
/-- The device at position `y` (kept in range) along the middle axis. -/
def yAt (c : Dev nD) (y : ℕ) : Dev nD := ⟨16 * (c.val / 16) + 4 * (y % 4) + c.val % 4,
  show _ < 32 by have h : c.val < 32 := c.isLt; omega⟩
/-- The column block of the device at position `y` along the middle axis. -/
def qAt (c : Dev nD) (y : ℕ) : Fin 8 := ⟨4 * (c.val / 16) + y % 4, by have h : c.val < 32 := c.isLt; omega⟩

/-! ## The second phase's copies -/

/-- Whether device `c` makes its `k`-th copy: the block across (0), the own block along the middle axis (1–4), the
    received blocks across in the order they are waited for, and the two blocks handed on (8 and 10). -/
def on (c : Dev nD) (k : Fin 13) : Bool :=
  match k with
  | 0 => true
  | 1 => yc c ≤ 2
  | 2 => yc c ≤ 1
  | 3 => 1 ≤ yc c
  | 4 => 2 ≤ yc c
  | 5 => 1 ≤ yc c
  | 6 => yc c ≤ 2
  | 7 => 2 ≤ yc c
  | 8 => yc c = 2
  | 9 => yc c ≤ 1
  | 10 => yc c = 1
  | 11 => yc c = 3
  | 12 => yc c = 0

/-- The device the `k`-th copy goes to. -/
def tg (c : Dev nD) (k : Fin 13) : Dev nD :=
  match k with
  | 1 => yAt c (yc c + 1)
  | 2 => yAt c (yc c + 2)
  | 3 => yAt c (yc c + 3)
  | 4 => yAt c (yc c + 2)
  | 8 => yAt c 3
  | 10 => yAt c 0
  | 0 | 5 | 6 | 7 | 9 | 11 | 12 => xp c

/-- The block the `k`-th copy carries. -/
def sl (c : Dev nD) (k : Fin 13) : Fin 8 :=
  match k with
  | 0 | 1 | 2 | 3 | 4 => qc c
  | 5 => qAt c (yc c + 3)
  | 6 => qAt c (yc c + 1)
  | 7 => qAt c (yc c + 2)
  | 8 => qAt c 0
  | 9 => qAt c (yc c + 2)
  | 10 => qAt c 3
  | 11 => qAt c 0
  | 12 => qAt c 3

/-- The sender's semaphore of the `k`-th copy, as its place among the kernel's own. -/
def ss (k : Fin 13) : Fin 31 :=
  match k with
  | 0 => 14 | 1 => 10 | 2 => 11 | 3 => 12 | 4 => 13 | 5 => 15 | 6 => 16 | 7 => 17 | 8 => 21 | 9 => 18 | 10 => 22
  | 11 => 19 | 12 => 20

/-- The receiver's semaphore for block `j`. -/
def rs (j : Fin 8) : Fin 31 := ⟨23 + j.val, by have := j.isLt; omega⟩

/-- The copy that fills block `j` of device `p`, if one does. -/
def src (p : Dev nD) (j : Fin 8) : Dev nD × Fin 13 :=
  if j = qc p then (p, 0)
  else if j.val / 4 ≠ xc p then
    (xp p,
      if j.val % 4 = yc p then 0
      else if j.val % 4 + 1 = yc p then 5
      else if j.val % 4 = yc p + 1 then 6
      else if j.val % 4 + 2 = yc p then 7
      else if j.val % 4 = yc p + 2 then 9
      else if yc p = 3 then 11 else 12)
  else
    if j.val % 4 + 1 = yc p then (yAt p (j.val), 1)
    else if j.val % 4 + 2 = yc p then (yAt p (j.val), 2)
    else if j.val % 4 = yc p + 1 then (yAt p (j.val), 3)
    else if j.val % 4 = yc p + 2 then (yAt p (j.val), 4)
    else if yc p = 3 then (yAt p 2, 8) else (yAt p 1, 10)

theorem src_on : ∀ (p : Dev nD) (j : Fin 8), j ≠ qc p →
    on (src p j).1 (src p j).2 = true ∧ tg (src p j).1 (src p j).2 = p ∧ sl (src p j).1 (src p j).2 = j := by decide +kernel
theorem src_of : ∀ (c : Dev nD) (k : Fin 13), on c k = true → sl c k ≠ qc (tg c k) ∧ src (tg c k) (sl c k) = (c, k) := by
  decide +kernel
theorem zc_tg : ∀ (c : Dev nD) (k : Fin 13), on c k = true → zc (tg c k) = zc c := by decide +kernel

/-! ## The barrier's signals -/

/-- Whether the device `k - 6` (for `k` 4, 5) or `k - 5` (for 6, 7) places on along the middle axis exists. -/
def bok (c : Dev nD) (k : Fin 8) : Bool :=
  match k with
  | 4 => 2 ≤ yc c
  | 5 => 1 ≤ yc c
  | 6 => yc c ≤ 2
  | 7 => yc c ≤ 1
  | _ => true

/-- The device the `k`-th signal goes to: itself where no such neighbour exists. -/
def bt (c : Dev nD) (k : Fin 8) : Dev nD :=
  if bok c k then
    match k with
    | 0 => zp c 0 | 1 => zp c 1 | 2 => zp c 2 | 3 => xp c
    | 4 => yAt c (yc c + 2) | 5 => yAt c (yc c + 3) | 6 => yAt c (yc c + 1) | 7 => yAt c (yc c + 2)
  else c

/-- The duty the `k`-th signal pays at its target. -/
def bd (c : Dev nD) (k : Fin 8) : Fin 8 :=
  if bok c k then k else match k with | 4 => 7 | 5 => 6 | 6 => 5 | 7 => 4 | k => k

/-- Who pays duty `d` of device `p`'s barrier, and with which signal. -/
def bsrc (p : Dev nD) (d : Fin 8) : Dev nD × Fin 8 :=
  match d with
  | 0 => (zp p 2, 0) | 1 => (zp p 1, 1) | 2 => (zp p 0, 2) | 3 => (xp p, 3)
  | 4 => if yc p ≤ 1 then (yAt p (yc p + 2), 4) else (p, 7)
  | 5 => if yc p ≤ 2 then (yAt p (yc p + 1), 5) else (p, 6)
  | 6 => if 1 ≤ yc p then (yAt p (yc p + 3), 6) else (p, 5)
  | 7 => if 2 ≤ yc p then (yAt p (yc p + 2), 7) else (p, 4)

theorem bsrc_of : ∀ (c : Dev nD) (k : Fin 8), bsrc (bt c k) (bd c k) = (c, k) := by decide +kernel
theorem of_bsrc : ∀ (p : Dev nD) (d : Fin 8), bt (bsrc p d).1 (bsrc p d).2 = p ∧ bd (bsrc p d).1 (bsrc p d).2 = d := by
  decide +kernel

/-! ## The first phase -/

/-- Who fills the first phase's receive slot `s` of device `p`. -/
def zsrc (p : Dev nD) (s : Fin 3) : Dev nD := zp p s

theorem zp_rev : ∀ (p : Dev nD) (o : Fin 3), zp (zp p o) o.rev = p := by decide +kernel
theorem qc_zp : ∀ (p : Dev nD) (o : Fin 3), qc (zp p o) = qc p := by decide +kernel

/-! ## What the program computes -/

theorem dev1_eq : ∀ c : Dev nD, (⟨k0_dev1 c, k0_dev1_lt c⟩ : Dev nD) = bt c 0 := by decide +kernel
theorem dev2_eq : ∀ c : Dev nD, (⟨k0_dev2 c, k0_dev2_lt c⟩ : Dev nD) = bt c 1 := by decide +kernel
theorem dev3_eq : ∀ c : Dev nD, (⟨k0_dev3 c, k0_dev3_lt c⟩ : Dev nD) = bt c 2 := by decide +kernel
theorem dev4_eq : ∀ c : Dev nD, (⟨k0_dev4 c, k0_dev4_lt c⟩ : Dev nD) = bt c 3 := by decide +kernel
theorem dev5_eq : ∀ c : Dev nD, (⟨k0_dev5 c, k0_dev5_lt c⟩ : Dev nD) = bt c 4 := by decide +kernel
theorem dev6_eq : ∀ c : Dev nD, (⟨k0_dev6 c, k0_dev6_lt c⟩ : Dev nD) = bt c 5 := by decide +kernel
theorem dev7_eq : ∀ c : Dev nD, (⟨k0_dev7 c, k0_dev7_lt c⟩ : Dev nD) = bt c 6 := by decide +kernel
theorem dev8_eq : ∀ c : Dev nD, (⟨k0_dev8 c, k0_dev8_lt c⟩ : Dev nD) = bt c 7 := by decide +kernel

theorem dev9_eq : ∀ c : Dev nD, (⟨k0_dev9 c, k0_dev9_lt c⟩ : Dev nD) = zp c 0 := by decide +kernel
theorem dev10_eq : ∀ c : Dev nD, (⟨k0_dev10 c, k0_dev10_lt c⟩ : Dev nD) = zp c 1 := by decide +kernel
theorem dev11_eq : ∀ c : Dev nD, (⟨k0_dev11 c, k0_dev11_lt c⟩ : Dev nD) = zp c 2 := by decide +kernel

theorem dev12_eq : ∀ c : Dev nD, (⟨k0_dev12 c, k0_dev12_lt c⟩ : Dev nD) = tg c 0 := by decide +kernel
theorem dev13_eq : ∀ c h, (⟨k0_dev13 c, k0_dev13_lt c h⟩ : Dev nD) = tg c 1 := by decide +kernel
theorem dev14_eq : ∀ c h, (⟨k0_dev14 c, k0_dev14_lt c h⟩ : Dev nD) = tg c 2 := by decide +kernel
theorem dev15_eq : ∀ c h, (⟨k0_dev15 c, k0_dev15_lt c h⟩ : Dev nD) = tg c 3 := by decide +kernel
theorem dev16_eq : ∀ c h, (⟨k0_dev16 c, k0_dev16_lt c h⟩ : Dev nD) = tg c 4 := by decide +kernel
theorem dev17_eq : ∀ c h, (⟨k0_dev17 c, k0_dev17_lt c h⟩ : Dev nD) = tg c 5 := by decide +kernel
theorem dev18_eq : ∀ c h, (⟨k0_dev18 c, k0_dev18_lt c h⟩ : Dev nD) = tg c 6 := by decide +kernel
theorem dev19_eq : ∀ c h, (⟨k0_dev19 c, k0_dev19_lt c h⟩ : Dev nD) = tg c 7 := by decide +kernel
theorem dev20_eq : ∀ c h, (⟨k0_dev20 c, k0_dev20_lt c h⟩ : Dev nD) = tg c 8 := by decide +kernel
theorem dev21_eq : ∀ c h, (⟨k0_dev21 c, k0_dev21_lt c h⟩ : Dev nD) = tg c 9 := by decide +kernel
theorem dev22_eq : ∀ c h, (⟨k0_dev22 c, k0_dev22_lt c h⟩ : Dev nD) = tg c 10 := by decide +kernel
theorem dev23_eq : ∀ c h, (⟨k0_dev23 c, k0_dev23_lt c h⟩ : Dev nD) = tg c 11 := by decide +kernel
theorem dev24_eq : ∀ c h, (⟨k0_dev24 c, k0_dev24_lt c h⟩ : Dev nD) = tg c 12 := by decide +kernel

theorem cond1_iff : ∀ c : Dev nD, k0_cond1 c = 1#1 ↔ on c 1 = true := by decide +kernel
theorem cond2_iff : ∀ c : Dev nD, k0_cond2 c = 1#1 ↔ on c 2 = true := by decide +kernel
theorem cond3_iff : ∀ c : Dev nD, k0_cond3 c = 1#1 ↔ on c 3 = true := by decide +kernel
theorem cond4_iff : ∀ c : Dev nD, k0_cond4 c = 1#1 ↔ on c 4 = true := by decide +kernel
theorem cond5_iff : ∀ c : Dev nD, k0_cond5 c = 1#1 ↔ on c 5 = true := by decide +kernel
theorem cond6_iff : ∀ c : Dev nD, k0_cond6 c = 1#1 ↔ on c 5 = true := by decide +kernel
theorem cond7_iff : ∀ c : Dev nD, k0_cond7 c = 1#1 ↔ on c 6 = true := by decide +kernel
theorem cond8_iff : ∀ c : Dev nD, k0_cond8 c = 1#1 ↔ on c 6 = true := by decide +kernel
theorem cond9_iff : ∀ c : Dev nD, k0_cond9 c = 1#1 ↔ on c 7 = true := by decide +kernel
theorem cond10_iff : ∀ c : Dev nD, k0_cond10 c = 1#1 ↔ on c 7 = true := by decide +kernel
theorem cond11_iff : ∀ c : Dev nD, k0_cond11 c = 1#1 ↔ on c 8 = true := by decide +kernel
theorem cond12_iff : ∀ c : Dev nD, k0_cond12 c = 1#1 ↔ on c 9 = true := by decide +kernel
theorem cond13_iff : ∀ c : Dev nD, k0_cond13 c = 1#1 ↔ on c 9 = true := by decide +kernel
theorem cond14_iff : ∀ c : Dev nD, k0_cond14 c = 1#1 ↔ on c 10 = true := by decide +kernel
theorem cond15_iff : ∀ c : Dev nD, k0_cond15 c = 1#1 ↔ on c 11 = true := by decide +kernel
theorem cond16_iff : ∀ c : Dev nD, k0_cond16 c = 1#1 ↔ on c 11 = true := by decide +kernel
theorem cond17_iff : ∀ c : Dev nD, k0_cond17 c = 1#1 ↔ on c 12 = true := by decide +kernel
theorem cond18_iff : ∀ c : Dev nD, k0_cond18 c = 1#1 ↔ on c 12 = true := by decide +kernel
theorem cond19_iff : ∀ c : Dev nD, k0_cond19 c = 1#1 ↔ on c 1 = true := by decide +kernel
theorem cond20_iff : ∀ c : Dev nD, k0_cond20 c = 1#1 ↔ on c 2 = true := by decide +kernel
theorem cond21_iff : ∀ c : Dev nD, k0_cond21 c = 1#1 ↔ on c 3 = true := by decide +kernel
theorem cond22_iff : ∀ c : Dev nD, k0_cond22 c = 1#1 ↔ on c 4 = true := by decide +kernel
theorem cond23_iff : ∀ c : Dev nD, k0_cond23 c = 1#1 ↔ on c 5 = true := by decide +kernel
theorem cond24_iff : ∀ c : Dev nD, k0_cond24 c = 1#1 ↔ on c 6 = true := by decide +kernel
theorem cond25_iff : ∀ c : Dev nD, k0_cond25 c = 1#1 ↔ on c 7 = true := by decide +kernel
theorem cond26_iff : ∀ c : Dev nD, k0_cond26 c = 1#1 ↔ on c 8 = true := by decide +kernel
theorem cond27_iff : ∀ c : Dev nD, k0_cond27 c = 1#1 ↔ on c 9 = true := by decide +kernel
theorem cond28_iff : ∀ c : Dev nD, k0_cond28 c = 1#1 ↔ on c 10 = true := by decide +kernel
theorem cond29_iff : ∀ c : Dev nD, k0_cond29 c = 1#1 ↔ on c 11 = true := by decide +kernel
theorem cond30_iff : ∀ c : Dev nD, k0_cond30 c = 1#1 ↔ on c 12 = true := by decide +kernel

end Cert.Proof
-- ==== Proof.Slots.lean ====
module

public import proofs.«01_k».proof.Proof.Mesh
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Pipeline.Value

@[expose] public section

/-! Stacks of `[1024, 128]` slots: a buffer of shape `[n, 1024, 128]` held slot by slot, and what a slot reads of
    contents given slot by slot. -/

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS URA

/-- A stack of `n` slots. -/
abbrev SB (n : ℕ) : Shape := ⟨3, ![n, 1024, 128]⟩

/-- Slot `j` lies inside the stack. -/
theorem inbSlot {n : ℕ} (j : Fin n) : ∀ a, (![j.val, 0, 0] : Fin 3 → ℕ) a + S1x1024x128.size a ≤ (SB n).size a := by
  intro a; have := j.isLt
  fin_cases a
  · show j.val + 1 ≤ n; omega
  · show 0 + 1024 ≤ 1024; omega
  · show 0 + 128 ≤ 128; omega

/-- Slot `j`'s rectangle. -/
abbrev rSlot {n : ℕ} (j : Fin n) : Rect (SB n) := Rect.unit (s := SB n) ![j.val, 0, 0] S1x1024x128.size (inbSlot j)

/-- Slot `j` of a stack, as the copies name it. -/
abbrev slot {n : ℕ} {e : EltTy} (M : Memref sig .tc .vmem (SB n) e) (j : Fin n) : Memref sig .tc .vmem S1024x128 e :=
  (M.slice (rSlot j) (fun _ => rfl)).squeeze S1024x128 squeezes_S1x1024x128_S1024x128

/-- Position `x` of slot `j`. -/
def ix3 {n : ℕ} (j : Fin n) (x : S1024x128.Idx) : (SB n).Idx :=
  Fin.cons (α := fun a => Fin ((SB n).size a)) j (Fin.cons (α := fun a : Fin 2 => Fin ((SB n).size a.succ)) (x 0)
    (Fin.cons (α := fun a : Fin 1 => Fin ((SB n).size a.succ.succ)) (x 1) fun a => a.elim0))

/-- The position inside its slot of a stack's position. -/
def ix2 {n : ℕ} (i : (SB n).Idx) : S1024x128.Idx :=
  Fin.cons (α := fun a => Fin (S1024x128.size a)) (i 1) (Fin.cons (α := fun a : Fin 1 => Fin (S1024x128.size a.succ)) (i 2) fun a => a.elim0)

theorem ix2_ix3 {n : ℕ} (j : Fin n) (x : S1024x128.Idx) : ix2 (ix3 j x) = x := by
  funext a; fin_cases a <;> rfl
theorem ix3_ix2 {n : ℕ} (i : (SB n).Idx) : ix3 (i 0) (ix2 i) = i := by
  funext a; fin_cases a <;> rfl

variable {F : FTy → Type} [FloatOps F]

/-- A stack's contents, slot by slot. -/
def fill {n : ℕ} {e : EltTy} (v : Fin n → S1024x128.Idx → Elt F e) : (SB n).Idx → Elt F e := fun i => v (i 0) (ix2 i)

theorem rSlot_emb {n : ℕ} (j : Fin n) (x : S1024x128.Idx) :
    (rSlot j).emb (Fin.cons (α := fun a => Fin (S1x1024x128.size a)) ⟨0, Nat.one_pos⟩ x) = ix3 j x := by
  funext a
  refine Fin.ext ?_
  fin_cases a
  · show j.val + 1 * 0 = j.val; omega
  · show 0 + 1 * (x 0).val = (x 0).val; omega
  · show 0 + 1 * (x 1).val = (x 1).val; omega

/-- A slot reads its positions of the stack. -/
theorem read_slot {n : ℕ} {e : EltTy} (M : Memref sig .tc .vmem (SB n) e) (j : Fin n) (f : M.view.ty.Contents (Elt F))
    (x : S1024x128.Idx) : (slot M j).view.read (Elt F) f x = M.view.read (Elt F) f (ix3 j x) := by
  have h := congrFun (Memref.read_squeeze_slice (Val := Elt F) M (rSlot j) (fun _ => rfl) squeezes_S1x1024x128_S1024x128 shapeCasts_S1x1024x128_S1024x128 f) x
  refine h.trans ((shapeCast_dropUnit_apply ![1024, 128] _ _ x).trans ?_)
  exact congrArg (M.view.read (Elt F) f) (rSlot_emb j x)

/-- Two contents a slot reads alike hold it alike. -/
theorem slot_congr {n : ℕ} {e : EltTy} (M : Memref sig .tc .vmem (SB n) e) (j : Fin n) {f g : M.view.ty.Contents (Elt F)}
    (h : (slot M j).view.read (Elt F) f = (slot M j).view.read (Elt F) g) : ∀ i ∈ (slot M j).view.set, f i = g i := by
  intro i hi
  obtain ⟨x, -, rfl⟩ := Finset.mem_map.mp hi
  have := congrFun h x
  simp only [View.read_apply] at this
  exact (cast_inj _).mp this

/-- A slot's elements are its rectangle's. -/
theorem slot_set {n : ℕ} {e : EltTy} (M : Memref sig .tc .vmem (SB n) e) (j : Fin n) :
    (slot M j).view.set = M.view.setOn (rSlot j).set :=
  (View.set_reshape (v := (M.view.slice (rSlot j))) _).trans (View.set_slice _ _)

theorem rSlot_disjoint {n : ℕ} {j j' : Fin n} (h : j ≠ j') : Disjoint (rSlot j).set (rSlot j').set := by
  refine Rect.unit_disjoint 0 ?_
  show j.val + 1 ≤ j'.val ∨ j'.val + 1 ≤ j.val
  have : j.val ≠ j'.val := fun e => h (Fin.ext e)
  omega

theorem slot_disjoint {n : ℕ} {e : EltTy} (M : Memref sig .tc .vmem (SB n) e) (j j' : Fin n) (h : j ≠ j') :
    Disjoint (slot M j).view.set (slot M j').view.set := by
  rw [slot_set, slot_set]
  exact (Finset.disjoint_map _).mpr (rSlot_disjoint h)

theorem slot_cover {n : ℕ} {e : EltTy} (M : Memref sig .tc .vmem (SB n) e) :
    (Finset.univ : Finset (Fin n)).biUnion (fun j => (slot M j).view.set) = M.view.set := by
  ext i
  constructor
  · intro hi
    obtain ⟨j, -, hi⟩ := Finset.mem_biUnion.mp hi
    rw [slot_set] at hi
    obtain ⟨x, -, rfl⟩ := Finset.mem_map.mp hi
    exact M.view.emb_mem_set x
  · intro hi
    obtain ⟨x, -, rfl⟩ := Finset.mem_map.mp hi
    refine Finset.mem_biUnion.mpr ⟨x 0, Finset.mem_univ _, ?_⟩
    refine (slot_set M (x 0)).symm ▸ Finset.mem_map_of_mem _ ?_
    refine Rect.mem_set_unit.mpr fun a => ?_
    fin_cases a
    · exact ⟨le_refl _, Nat.lt_succ_self _⟩
    · exact ⟨Nat.zero_le _, by show (x 1).val < 0 + 1024; have : (x 1).val < 1024 := (x 1).isLt; omega⟩
    · exact ⟨Nat.zero_le _, by show (x 2).val < 0 + 128; have : (x 2).val < 128 := (x 2).isLt; omega⟩

section Hold

variable {Ix : Type} [DecidableEq Ix] {Name : Type} [DecidableEq Name] {U : Type} [URA U] {Lvl : Type}
local notation "𝕄" => MT nD τ sig Ix (Elt F) Name U Lvl

variable {n : ℕ} {e : EltTy} (M : Memref sig .tc .vmem (SB n) e) (c : Dev nD)

/-- Slot `j` of device `c`'s stack, held at share `q` with the whole stack's contents `f`. -/
def hold (q : PosShare TreeShare) (f : Buf (Elt F) (M.view.loc (c : Thread nD τ))) (j : Fin n) : sProp 𝕄 :=
  iprop((slot M j).view.loc (c : Thread nD τ) ↦[(slot M j).view.set]{q} f)

/-- Slot `j` at any contents. -/
def any (j : Fin n) : sProp 𝕄 := iprop(∃ f, hold M c fullShare f j)

instance hold_storable (q : PosShare TreeShare) (f : Buf (Elt F) (M.view.loc (c : Thread nD τ))) (j : Fin n) :
    BI.Storable (upEmb : UEmb _ 𝕄) (hold (Ix := Ix) (Name := Name) (U := U) (Lvl := Lvl) M c q f j) := by unfold hold; infer_instance
instance any_storable (j : Fin n) :
    BI.Storable (upEmb : UEmb _ 𝕄) (any (F := F) (Ix := Ix) (Name := Name) (U := U) (Lvl := Lvl) M c j) := by unfold any; infer_instance

/-- A stack is its slots. -/
theorem hold_slots (q : PosShare TreeShare) (f : Buf (Elt F) (M.view.loc (c : Thread nD τ))) :
    (M.view.loc (c : Thread nD τ) ↦[M.view.set]{q} f : sProp 𝕄) = bigSep Finset.univ (hold M c q f) := by
  rw [← slot_cover M]
  exact pointsTo_biUnion _ _ fun j _ j' _ h => slot_disjoint M j j' h

theorem hold_share {q q₁ q₂ : PosShare TreeShare} (h : q ∈ q₁ ·? q₂) (f : Buf (Elt F) (M.view.loc (c : Thread nD τ))) (j : Fin n) :
    (hold M c q f j : sProp 𝕄) ⊣⊢ iprop(hold M c q₁ f j ∗ hold M c q₂ f j) := pointsTo_share h

/-- Contents a slot reads alike. -/
theorem hold_congr (q : PosShare TreeShare) {f g : Buf (Elt F) (M.view.loc (c : Thread nD τ))} (j : Fin n)
    (h : (slot M j).view.read (Elt F) f = (slot M j).view.read (Elt F) g) :
    (hold M c q f j : sProp 𝕄) = hold M c q g j := pointsTo_congr (slot_congr M j h)

/-- A slot overwritten with what it should hold. -/
theorem hold_write (q : PosShare TreeShare) (fd : Buf (Elt F) (M.view.loc (c : Thread nD τ))) {g : Buf (Elt F) (M.view.loc (c : Thread nD τ))}
    (j : Fin n) (w : S1024x128.Idx → Elt F e) (h : (slot M j).view.read (Elt F) g = w) :
    (hold M c q ((slot M j).view.write (Elt F) fd w Finset.univ) j : sProp 𝕄) = hold M c q g j :=
  hold_congr M c q j ((View.read_write_univ _ _).trans h.symm)

/-- Slots at any contents are the stack at some. -/
theorem any_join (f₀ : Buf (Elt F) (M.view.loc (c : Thread nD τ))) :
    bigSep Finset.univ (any M c) ⊢ (iprop(∃ g, M.view.loc (c : Thread nD τ) ↦[M.view.set]{fullShare} g) : sProp 𝕄) := by
  have : Nonempty (Buf (Elt F) (M.view.loc (c : Thread nD τ))) := ⟨f₀⟩
  refine (bigSep_exists_pi Finset.univ (fun j f => (hold M c fullShare f j : sProp 𝕄))).trans ?_
  refine exists_elim fun fs => ?_
  have key := pointsTo_biUnion_join (Ix := Ix) (Val := Elt F) (Name := Name) (U := U) (Lvl := Lvl) (q := fullShare) (ℓ := M.view.loc (c : Thread nD τ)) Finset.univ (fun j : Fin n => (slot M j).view.set) fs f₀
    (fun j _ j' _ h => slot_disjoint M j j' h)
  rw [slot_cover] at key
  refine (show _ ⊢ _ from key).trans ?_
  iintro ⟨%g, -, H⟩
  iexists g
  iexact H

theorem hold_any (f : Buf (Elt F) (M.view.loc (c : Thread nD τ))) (j : Fin n) : (hold M c fullShare f j : sProp 𝕄) ⊢ any M c j := by
  unfold any; iintro H; iexists f; iexact H

theorem any_split (f : Buf (Elt F) (M.view.loc (c : Thread nD τ))) :
    (M.view.loc (c : Thread nD τ) ↦[M.view.set]{fullShare} f : sProp 𝕄) ⊢ bigSep Finset.univ (any M c) := by
  rw [hold_slots]
  exact bigSep_mono fun j _ => hold_any M c f j

end Hold

end Cert.Proof

end
-- ==== Proof.Sched.lean ====
module

public import proofs.«01_k».proof.Proof.Slots

@[expose] public section

/-! The protocol: the semaphore cells, what each landing hands over (with its contents), what each device owes and in
    which order cells are waited for. -/

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

/-- The protocol's rounds: a cell's round may have up to eight duties. -/
abbrev UB : Type := URounds (GSem nD τ sig) (Fin 8)
/-- The resources: the pipeline's rounds and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Memrefs and cells -/

abbrev aM : Memref sig .tc .hbm S4096x1024 .f32 := Memref.whole main_arg0
abbrev gM : Memref sig .tc .vmem S1x1024 .f32 := Memref.whole cc0_stg0_0
abbrev oM : Memref sig .tc .vmem S1024x1024 .f32 := Memref.whole cc0_stg1_0
abbrev xM : Memref sig .tc .vmem (SB 4) .f32 := Memref.whole cc0_scratch0
abbrev tM : Memref sig .tc .vmem (SB 3) .bf16 := Memref.whole cc0_scratch1
abbrev rM : Memref sig .tc .vmem (SB 3) .bf16 := Memref.whole cc0_scratch2
abbrev pM : Memref sig .tc .vmem (SB 8) .bf16 := Memref.whole cc0_scratch3

/-- The block of the argument that device `c` loads `k`-th: its columns, the rows of the device `k` places on. -/
abbrev lM (c : Dev nD) (k : Fin 4) : Memref sig .tc .hbm S1024x128 .f32 :=
  aM.slice (Rect.unit (s := S4096x1024) (k0_off1 c (BitVec.ofNat 32 k.val)) S1024x128.size (k0_off1_inb c k)) (fun _ => rfl)

/-- The barrier's semaphore. -/
abbrev barS : Sem sig := (SemArray.scalar (sig.barrier 0 rfl) : SemArray (Sem sig) ⟨0, ![]⟩).sem
/-- The kernel's own copy semaphores, from the third of the pool. -/
def own (n : Fin 31) : DmaSem sig := ⟨n.val + 2, show n.val + 2 < 33 by have := n.isLt; omega⟩

/-- The kernel's semaphores: 31 for copies, then the barrier's. -/
def ksem (n : Fin 32) : SemLoc sig := if h : n.val < 31 then .dma (own ⟨n.val, h⟩) else .reg barS
/-- A device's copy cell, and its barrier cell. -/
abbrev dcell (c : Dev nD) (n : Fin 31) : GSem nD τ sig := ((c : Thread nD τ), .dma (own n))
abbrev bcell (c : Dev nD) : GSem nD τ sig := ((c : Thread nD τ), .reg barS)
abbrev kcell (ck : Dev nD × Fin 32) : GSem nD τ sig := ((ck.1 : Thread nD τ), ksem ck.2)

theorem ksem_own (n : Fin 31) : ksem n.castSucc = .dma (own n) := dif_pos n.isLt
theorem ksem_bar : ksem 31 = .reg barS := rfl

/-- The semaphores by use: loads, the first phase's sends and receives, the second phase's receives (its sends: `ss`). -/
def nl (k : Fin 4) : Fin 31 := ⟨k.val, by omega⟩
def ns (o : Fin 3) : Fin 31 := ⟨4 + o.val, by omega⟩
def nr (s : Fin 3) : Fin 31 := ⟨7 + s.val, by omega⟩

/-- Which of the second phase's copies a sender's semaphore belongs to. -/
def ks (n : ℕ) : Fin 13 :=
  if n = 14 then 0 else if n = 10 then 1 else if n = 11 then 2 else if n = 12 then 3 else if n = 13 then 4
  else if n = 15 then 5 else if n = 16 then 6 else if n = 17 then 7 else if n = 21 then 8 else if n = 18 then 9
  else if n = 22 then 10 else if n = 19 then 11 else 12
theorem ks_ss : ∀ k : Fin 13, ks (ss k).val = k := by decide

/-- The credit of one landing: a block of the argument's, and a slot's. -/
@[irreducible] def NX : ℕ := (slot xM 0).view.dmaCredit
@[irreducible] def NP : ℕ := (slot pM 0).view.dmaCredit
theorem NX_pos : 0 < NX := by unfold NX; exact View.dmaCredit_pos _ (by decide)
theorem NP_pos : 0 < NP := by unfold NP; exact View.dmaCredit_pos _ (by decide)

theorem credit_x (j : Fin 4) : (slot xM j).view.dmaCredit = NX := by unfold NX; rfl
theorem credit_t (j : Fin 3) : (slot tM j).view.dmaCredit = NP := by unfold NP; decide +revert
theorem credit_r (j : Fin 3) : (slot rM j).view.dmaCredit = NP := by unfold NP; decide +revert
theorem credit_p (j : Fin 8) : (slot pM j).view.dmaCredit = NP := by unfold NP; rfl

/-! ## Contents -/

/-- The argument at device `c`. -/
abbrev X (c : Dev nD) : Buf (Elt F) (aM.view.loc (c : Thread nD τ)) := m (aM.view.loc (c : Thread nD τ))
/-- The block loaded `k`-th. -/
def ldV (c : Dev nD) (k : Fin 4) : S1024x128.Idx → Elt F .f32 := (lM c k).view.read (Elt F) (X m c)
/-- The blocks sent in the first phase. -/
def stV (c : Dev nD) (o : Fin 3) : S1024x128.Idx → Elt F .bf16 :=
  (truncf .bf16 (ldV m c o.succ : FVec F S1024x128 .f32) bitsLt_bf16_f32 : FVec F S1024x128 .bf16)
/-- A slot's contents as a load through the stack gives them. -/
def up {e : EltTy} (v : S1024x128.Idx → Elt F e) : Vec F S1x1024x128 e := fun i => v (fun a => i a.succ)
/-- The reduced block of device `c`. -/
def yV (c : Dev nD) : S1024x128.Idx → Elt F .bf16 :=
  k0_pay4 (up (stV m (zsrc c 0) 2)) (up (stV m (zsrc c 1) 1)) (up (stV m (zsrc c 2) 0)) (up (ldV m c 0))

/-- The four stacks' contents. -/
def XS (c : Dev nD) : Buf (Elt F) (xM.view.loc (c : Thread nD τ)) := fill (ldV m c)
def ST (c : Dev nD) : Buf (Elt F) (tM.view.loc (c : Thread nD τ)) := fill (stV m c)
def RV (c : Dev nD) : Buf (Elt F) (rM.view.loc (c : Thread nD τ)) := fill fun s => stV m (zsrc c s) s.rev
def PV (c : Dev nD) : Buf (Elt F) (pM.view.loc (c : Thread nD τ)) := fill fun j => yV m (dv j (zc c))

theorem read_XS (c : Dev nD) (k : Fin 4) : (slot xM k).view.read (Elt F) (XS m c) = ldV m c k := by
  funext x; rw [read_slot]; show fill (ldV m c) (ix3 k x) = _; unfold fill; rw [ix2_ix3]; rfl
theorem read_ST (c : Dev nD) (o : Fin 3) : (slot tM o).view.read (Elt F) (ST m c) = stV m c o := by
  funext x; rw [read_slot]; show fill (stV m c) (ix3 o x) = _; unfold fill; rw [ix2_ix3]; rfl
theorem read_RV (c : Dev nD) (s : Fin 3) : (slot rM s).view.read (Elt F) (RV m c) = stV m (zsrc c s) s.rev := by
  funext x; rw [read_slot]; show fill (fun s => stV m (zsrc c s) s.rev) (ix3 s x) = _; unfold fill; rw [ix2_ix3]; rfl
theorem read_PV (c : Dev nD) (j : Fin 8) : (slot pM j).view.read (Elt F) (PV m c) = yV m (dv j (zc c)) := by
  funext x; rw [read_slot]; show fill (fun j => yV m (dv j (zc c))) (ix3 j x) = _; unfold fill; rw [ix2_ix3]; rfl

/-! ## Shares -/

/-- The argument's share lent to the `k`-th load. -/
def qa (k : Fin 4) : PosShare TreeShare :=
  match k with | 0 => fullShare.left | 1 => fullShare.right.left | 2 => fullShare.right.right.left | 3 => fullShare.right.right.right
/-- A slot's share kept to read from. -/
abbrev keep : PosShare TreeShare := fullShare.left
/-- A slot's share lent to the second phase's `k`-th copy. -/
def qp (k : Fin 13) : PosShare TreeShare :=
  match k with
  | 0 => fullShare.right.left
  | 1 => fullShare.right.right.left
  | 2 => fullShare.right.right.right.left
  | 3 => fullShare.right.right.right.right.left
  | 4 => fullShare.right.right.right.right.right
  | 8 | 10 => fullShare.right.right
  | 5 | 6 | 7 | 9 | 11 | 12 => fullShare.right.left

/-! ## What each landing hands over -/

/-- Something only where `b` holds. -/
def cnd (b : Bool) (P : sProp 𝕄) : sProp 𝕄 := if b then P else iprop(emp)

instance cnd_storable (b : Bool) (P : sProp 𝕄) [BI.Storable (upEmb : UEmb _ 𝕄) P] : BI.Storable (upEmb : UEmb _ 𝕄) (cnd b P) := by
  unfold cnd; split <;> infer_instance

/-- Leave to overwrite the slot device `p`'s `k`-th copy fills. -/
def perm (p : Dev nD) (k : Fin 13) : sProp 𝕄 := cnd (on p k) (any pM (tg p k) (sl p k))

/-- What duty `d` of device `p`'s barrier hands over: leave to overwrite the slots the signaller gives `p`. -/
def barPay (p : Dev nD) (d : Fin 8) : sProp 𝕄 :=
  match d with
  | 0 => any rM (zp p 2) 0
  | 1 => any rM (zp p 1) 1
  | 2 => any rM (zp p 0) 2
  | 3 => iprop(perm p 0 ∗ perm p 5 ∗ perm p 6 ∗ perm p 7 ∗ perm p 9 ∗ perm p 11 ∗ perm p 12)
  | 4 => perm p 2
  | 5 => iprop(perm p 1 ∗ perm p 8)
  | 6 => iprop(perm p 3 ∗ perm p 10)
  | 7 => perm p 4

/-- The block of the argument a load reads, at the share lent to it. -/
def aHold (c : Dev nD) (k : Fin 4) : sProp 𝕄 :=
  iprop((lM c k).view.loc (c : Thread nD τ) ↦[(lM c k).view.set]{qa k} X m c)

/-- What a landing on copy semaphore `n` of device `p` hands over. -/
def dPay (p : Dev nD) (n : Fin 31) : sProp 𝕄 :=
  if h : n.val < 4 then iprop(hold xM p fullShare (XS m p) ⟨n.val, h⟩ ∗ aHold m p ⟨n.val, h⟩)
  else if h : n.val < 7 then hold tM p fullShare (ST m p) ⟨n.val - 4, by omega⟩
  else if h : n.val < 10 then hold rM p fullShare (RV m p) ⟨n.val - 7, by omega⟩
  else if h : n.val < 23 then hold pM p (qp (ks n.val)) (PV m p) (sl p (ks n.val))
  else hold pM p fullShare (PV m p) ⟨n.val - 23, by have := n.isLt; omega⟩

/-- Whether anything lands on copy semaphore `n` of device `p`. -/
def has (p : Dev nD) (n : Fin 31) : Bool :=
  if n.val < 10 then true else if n.val < 23 then on p (ks n.val) else decide (n.val - 23 ≠ (qc p).val)

/-- Reading a pool semaphore as one of the kernel's own. -/
def unown (s : DmaSem sig) : Fin 31 := Fin.ofNat 31 (s.val - 2)
theorem unown_own (n : Fin 31) : unown (own n) = n := by decide +revert

/-- One round per cell: the barrier of eight duties of one unit each, a copy's of one duty. -/
def Rd : Rounds.Schedule (GSem nD τ sig) (Fin 8) 𝕄 where
  duties g r := if r = 0 then
      match g.2 with
      | .reg _ => Finset.univ
      | .dma s => if 2 ≤ s.val ∧ has g.1.1 (unown s) = true then {0} else ∅
    else ∅
  unitless _ := False
  amount g _ _ := match g.2 with
    | .reg _ => 1
    | .dma s => if s.val < 6 then NX else NP
  payload g _ d := match g.2 with
    | .reg _ => barPay g.1.1 d
    | .dma s => dPay m g.1.1 (unown s)
  amount_pos g _ _ _ := by
    rcases g with ⟨t, s | s⟩
    · exact Nat.one_pos
    · show 0 < if s.val < 6 then NX else NP
      split
      · exact NX_pos
      · exact NP_pos

instance Rd_storable (g : GSem nD τ sig) (r : ℕ) (d : Fin 8) : BI.Storable (upEmb : UEmb _ 𝕄) ((Rd (F := F) m).payload g r d) := by
  rcases g with ⟨t, s | s⟩
  · show BI.Storable upEmb (barPay t.1 d)
    unfold barPay perm
    split <;> infer_instance
  · show BI.Storable upEmb (dPay m t.1 (unown s))
    unfold dPay aHold
    (repeat' split) <;> infer_instance

theorem duties_b (c : Dev nD) : (Rd (F := F) m).duties (bcell c) 0 = Finset.univ := rfl
theorem duties_d (c : Dev nD) (n : Fin 31) (h : has c n = true) : (Rd (F := F) m).duties (dcell c n) 0 = {0} := by
  dsimp only [Rd]; rw [if_pos rfl, unown_own]; exact if_pos ⟨Nat.le_add_left 2 _, h⟩
theorem duties_none (c : Dev nD) (n : Fin 31) (h : has c n = false) : ∀ r, 0 ≤ r → (Rd (F := F) m).duties (dcell c n) r = ∅ := by
  intro r _
  dsimp only [Rd]; rw [unown_own]; split
  · exact if_neg fun h' => by rw [h] at h'; exact absurd h'.2 (by decide)
  · rfl
theorem duties_later (g : GSem nD τ sig) : ∀ r, 1 ≤ r → (Rd (F := F) m).duties g r = ∅ :=
  fun r hr => by dsimp only [Rd]; exact if_neg (by omega)

theorem amount_b (c : Dev nD) (r : ℕ) (d : Fin 8) : (Rd (F := F) m).amount (bcell c) r d = 1 := rfl
theorem amount_l (c : Dev nD) (k : Fin 4) (r : ℕ) (d : Fin 8) : (Rd (F := F) m).amount (dcell c (nl k)) r d = NX :=
  if_pos (show k.val + 2 < 6 by have := k.isLt; omega)
theorem amount_d (c : Dev nD) (n : Fin 31) (h : 4 ≤ n.val) (r : ℕ) (d : Fin 8) : (Rd (F := F) m).amount (dcell c n) r d = NP :=
  if_neg (show ¬ n.val + 2 < 6 by omega)

theorem payload_b (c : Dev nD) (r : ℕ) (d : Fin 8) : (Rd (F := F) m).payload (bcell c) r d = barPay c d := rfl
theorem payload_d (c : Dev nD) (n : Fin 31) (r : ℕ) (d : Fin 8) : (Rd (F := F) m).payload (dcell c n) r d = dPay m c n := by
  dsimp only [Rd]; rw [unown_own]

theorem expect_b (c : Dev nD) : (Rd (F := F) m).expect (bcell c) 0 = 8 := by
  unfold Schedule.expect Schedule.amountOf; rw [duties_b]; rfl
theorem expect_l (c : Dev nD) (k : Fin 4) : (Rd (F := F) m).expect (dcell c (nl k)) 0 = NX := by
  unfold Schedule.expect Schedule.amountOf
  rw [duties_d m c (nl k) (if_pos (show k.val < 10 by have := k.isLt; omega)), Finset.sum_singleton, amount_l]
theorem expect_d (c : Dev nD) (n : Fin 31) (h : 4 ≤ n.val) (hh : has c n = true) : (Rd (F := F) m).expect (dcell c n) 0 = NP := by
  unfold Schedule.expect Schedule.amountOf
  rw [duties_d m c n hh, Finset.sum_singleton, amount_d m c n h]
theorem rest_d (c : Dev nD) (n : Fin 31) (hh : has c n = true) :
    bigSep ((Rd (F := F) m).duties (dcell c n) 0 \ ∅) (fun u => (Rd (F := F) m).payload (dcell c n) 0 u) = dPay m c n := by
  rw [Finset.sdiff_empty, duties_d m c n hh, bigSep_singleton, payload_d]

theorem has_nl (c : Dev nD) (k : Fin 4) : has c (nl k) = true := if_pos (show k.val < 10 by have := k.isLt; omega)
theorem has_ns (c : Dev nD) (o : Fin 3) : has c (ns o) = true := if_pos (show 4 + o.val < 10 by have := o.isLt; omega)
theorem has_nr (c : Dev nD) (s : Fin 3) : has c (nr s) = true := if_pos (show 7 + s.val < 10 by have := s.isLt; omega)
theorem has_ss : ∀ (c : Dev nD) (k : Fin 13), has c (ss k) = on c k := by decide +kernel
theorem has_rs : ∀ (c : Dev nD) (j : Fin 8), has c (rs j) = decide (j ≠ qc c) := by decide +kernel
theorem ss_ge : ∀ k : Fin 13, 4 ≤ (ss k).val := by decide

theorem dPay_l (c : Dev nD) (k : Fin 4) : dPay (F := F) m c (nl k) = iprop(hold xM c fullShare (XS m c) k ∗ aHold m c k) := dif_pos k.isLt
theorem dPay_s (c : Dev nD) (o : Fin 3) : dPay (F := F) m c (ns o) = hold tM c fullShare (ST m c) o := by
  unfold dPay ns
  rw [dif_neg (show ¬ 4 + o.val < 4 by omega), dif_pos (show 4 + o.val < 7 by have := o.isLt; omega)]
  congr 1; exact Fin.ext (show 4 + o.val - 4 = o.val by omega)
theorem dPay_r (c : Dev nD) (s : Fin 3) : dPay (F := F) m c (nr s) = hold rM c fullShare (RV m c) s := by
  unfold dPay nr
  rw [dif_neg (show ¬ 7 + s.val < 4 by omega), dif_neg (show ¬ 7 + s.val < 7 by omega), dif_pos (show 7 + s.val < 10 by have := s.isLt; omega)]
  congr 1; exact Fin.ext (show 7 + s.val - 7 = s.val by omega)
theorem ss_range : ∀ k : Fin 13, ¬ (ss k).val < 4 ∧ ¬ (ss k).val < 7 ∧ ¬ (ss k).val < 10 ∧ (ss k).val < 23 := by decide
theorem dPay_ss (c : Dev nD) (k : Fin 13) : dPay (F := F) m c (ss k) = hold pM c (qp k) (PV m c) (sl c k) := by
  unfold dPay
  obtain ⟨h1, h2, h3, h4⟩ := ss_range k
  rw [dif_neg h1, dif_neg h2, dif_neg h3, dif_pos h4, ks_ss]
theorem dPay_rs (c : Dev nD) (j : Fin 8) : dPay (F := F) m c (rs j) = hold pM c fullShare (PV m c) j := by
  unfold dPay rs
  rw [dif_neg (show ¬ 23 + j.val < 4 by omega), dif_neg (show ¬ 23 + j.val < 7 by omega), dif_neg (show ¬ 23 + j.val < 10 by omega),
    dif_neg (show ¬ 23 + j.val < 23 by omega)]
  congr 1; exact Fin.ext (show 23 + j.val - 23 = j.val by omega)

/-! ## What a device owes, and the order of the waits -/

/-- The cell of the `i`-th payment: eight signals, the first phase's three copies, the second phase's thirteen. -/
def pcell (c : Dev nD) (i : ℕ) : GSem nD τ sig :=
  if i < 8 then bcell (bt c (Fin.ofNat 8 i))
  else if i < 11 then dcell (zp c (Fin.ofNat 3 (i - 8))) (nr (Fin.ofNat 3 (i - 8)).rev)
  else dcell (tg c (Fin.ofNat 13 (i - 11))) (rs (sl c (Fin.ofNat 13 (i - 11))))
/-- Whether it is made, and what it pays. -/
def pon (c : Dev nD) (i : ℕ) : Bool := if i < 11 then true else on c (Fin.ofNat 13 (i - 11))
def pamt (i : ℕ) : ℕ := if i < 8 then 1 else NP
def payT (c : Dev nD) (i : ℕ) : CellTallies nD τ sig Unit := tallyAt (pcell c i) () (if pon c i then pamt i else 0)
/-- What a device owes from its `t`-th payment on. -/
def Ow (c : Dev nD) (t : ℕ) : CellTallies nD τ sig Unit := ∑ i ∈ Finset.Ico t 24, payT c i

theorem Ow_step (c : Dev nD) {t : ℕ} (h : t < 24) : Ow c t = Ow c (t + 1) + payT c t := by
  unfold Ow; rw [show Finset.Ico t 24 = insert t (Finset.Ico (t + 1) 24) by ext i; simp only [Finset.mem_insert, Finset.mem_Ico]; omega,
    Finset.sum_insert (by simp only [Finset.mem_Ico]; omega), add_comm]
theorem Ow_end (c : Dev nD) : Ow c 24 = 0 := by unfold Ow; rw [Finset.Ico_self, Finset.sum_empty]

theorem payT_bar (c : Dev nD) (k : Fin 8) : payT c k.val = tallyAt (bcell (bt c k)) () 1 := by
  unfold payT pcell pon pamt
  rw [if_pos k.isLt, if_pos (show k.val < 11 by have := k.isLt; omega), if_pos rfl, if_pos k.isLt, show Fin.ofNat 8 k.val = k from Fin.ext (Nat.mod_eq_of_lt k.isLt)]
theorem payT_z (c : Dev nD) (o : Fin 3) : payT c (8 + o.val) = tallyAt (dcell (zp c o) (nr o.rev)) () NP := by
  unfold payT pcell pon pamt
  have := o.isLt
  rw [if_neg (show ¬ 8 + o.val < 8 by omega), if_pos (show 8 + o.val < 11 by omega), if_pos (show 8 + o.val < 11 by omega), if_pos rfl,
    if_neg (show ¬ 8 + o.val < 8 by omega), Nat.add_sub_cancel_left,
    show Fin.ofNat 3 o.val = o from Fin.ext (Nat.mod_eq_of_lt o.isLt)]
theorem payT_p (c : Dev nD) (k : Fin 13) : payT c (11 + k.val) = tallyAt (dcell (tg c k) (rs (sl c k))) () (if on c k then NP else 0) := by
  unfold payT pcell pon pamt
  rw [if_neg (show ¬ 11 + k.val < 8 by omega), if_neg (show ¬ 11 + k.val < 11 by omega), if_neg (show ¬ 11 + k.val < 11 by omega),
    if_neg (show ¬ 11 + k.val < 8 by omega), Nat.add_sub_cancel_left,
    show Fin.ofNat 13 k.val = k from Fin.ext (Nat.mod_eq_of_lt k.isLt)]

/-- The levels: a second-phase landing later the more copies it waits on. -/
def rlev (p : Dev nD) (j : ℕ) : ℕ :=
  if j / 4 ≠ xc p then 5 else if j % 4 + 3 = yc p ∨ yc p + 3 = j % 4 then 4 else 3
def lv (g : GSem nD τ sig) (_ : Unit) : ℕ :=
  match g.2 with
  | .reg _ => 1
  | .dma s => if s.val < 9 then 0 else if s.val < 12 then 2 else if s.val < 25 then 0 else rlev g.1.1 (s.val - 25)
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

theorem pcell_tc (c : Dev nD) (i : ℕ) : (pcell c i).1.2 = .tc := by
  unfold pcell; split
  · rfl
  · split <;> rfl

theorem Ow_pos {c : Dev nD} {t : ℕ} {g : GSem nD τ sig} {u : Unit} (h : 0 < Ow c t g u) :
    ∃ i, t ≤ i ∧ i < 24 ∧ pon c i = true ∧ g = pcell c i := by
  unfold Ow at h
  rw [Finset.sum_apply, Finsupp.finset_sum_apply] at h
  obtain ⟨i, hi, hp⟩ := Finset.exists_ne_zero_of_sum_ne_zero (Nat.pos_iff_ne_zero.mp h)
  obtain ⟨h1, h2⟩ := Finset.mem_Ico.mp hi
  refine ⟨i, h1, h2, ?_⟩
  unfold payT at hp
  rw [tallyAt_apply] at hp
  by_cases hg : g = pcell c i ∧ u = ()
  · rw [if_pos hg] at hp
    refine ⟨?_, hg.1⟩
    by_contra hn
    rw [if_neg hn] at hp; exact hp rfl
  · rw [if_neg hg] at hp; exact absurd rfl hp

/-- A cell of level below every payment still owed may be waited for. -/
theorem mayWait (c : Dev nD) (sm : SemLoc sig) (t : ℕ) (l : ℕ) (hl : lv ((c : Thread nD τ), sm) () ≤ l)
    (h : ∀ i, t ≤ i → i < 24 → pon c i = true → l < lv (pcell c i) ()) :
    (levAts L lv : sProp 𝕄) ⊢ MayWait (c : Thread nD τ) sm () (Ow c t) :=
  MayOwe.of_cut (L := L) (lev := lv) l (fun p hp => by rw [Finset.mem_singleton.mp hp, L_tc]; exact Finset.mem_singleton_self _)
    (fun g u hg => by
      obtain ⟨i, -, -, -, rfl⟩ := Ow_pos hg
      unfold L; rw [if_pos (pcell_tc c i)]; exact Finset.mem_singleton_self _)
    (fun p hp => by rw [Finset.mem_singleton.mp hp]; exact hl)
    (fun g u hg => by
      obtain ⟨i, h1, h2, h3, rfl⟩ := Ow_pos hg
      exact h i h1 h2 h3)

end Cert.Proof

end
-- ==== Proof.Offs.lean ====
module

public import proofs.«01_k».proof.Proof.Mesh

@[expose] public section

/-! The offsets the program's integer chains compute: the slot, or the semaphore, of the block a copy carries. -/

namespace Cert.Proof

open Idealize.ShloMosaic Idealize.SL.Sem
open Cert.KernelIdeal Cert.KernelIdeal.Gen

/-- The `i`-th block of the other half of the axis of size two. -/
def ox (c : Dev nD) (i : Fin 4) : Fin 8 := ⟨4 * (1 - xc c) + i.val, by have := i.isLt; omega⟩

theorem off2_eq : ∀ c : Dev nD, k0_off2 c = ![(qc c).val, 0, 0] := by decide +kernel
theorem off3_eq : ∀ c : Dev nD, on c 0 = true → k0_off3 c = ![(sl c 0).val] := by decide +kernel
theorem off4_eq : ∀ c : Dev nD, on c 0 = true → k0_off4 c = ![(sl c 0).val, 0, 0] := by decide +kernel
theorem off5_eq : ∀ c : Dev nD, on c 1 = true → k0_off5 c = ![(sl c 1).val] := by decide +kernel
theorem off6_eq : ∀ c : Dev nD, on c 1 = true → k0_off6 c = ![(sl c 1).val, 0, 0] := by decide +kernel
theorem off7_eq : ∀ c : Dev nD, on c 2 = true → k0_off7 c = ![(sl c 2).val] := by decide +kernel
theorem off8_eq : ∀ c : Dev nD, on c 2 = true → k0_off8 c = ![(sl c 2).val, 0, 0] := by decide +kernel
theorem off9_eq : ∀ c : Dev nD, on c 3 = true → k0_off9 c = ![(sl c 3).val] := by decide +kernel
theorem off10_eq : ∀ c : Dev nD, on c 3 = true → k0_off10 c = ![(sl c 3).val, 0, 0] := by decide +kernel
theorem off11_eq : ∀ c : Dev nD, on c 4 = true → k0_off11 c = ![(sl c 4).val] := by decide +kernel
theorem off12_eq : ∀ c : Dev nD, on c 4 = true → k0_off12 c = ![(sl c 4).val, 0, 0] := by decide +kernel
theorem off13_eq : ∀ c : Dev nD, on c 5 = true → k0_off13 c = ![(sl c 5).val] := by decide +kernel
theorem off14_eq : ∀ c : Dev nD, on c 5 = true → k0_off14 c = ![(sl c 5).val, 0, 0] := by decide +kernel
theorem off15_eq : ∀ c : Dev nD, on c 5 = true → k0_off15 c = ![(sl c 5).val] := by decide +kernel
theorem off16_eq : ∀ c : Dev nD, on c 5 = true → k0_off16 c = ![(sl c 5).val, 0, 0] := by decide +kernel
theorem off17_eq : ∀ c : Dev nD, on c 6 = true → k0_off17 c = ![(sl c 6).val] := by decide +kernel
theorem off18_eq : ∀ c : Dev nD, on c 6 = true → k0_off18 c = ![(sl c 6).val, 0, 0] := by decide +kernel
theorem off19_eq : ∀ c : Dev nD, on c 6 = true → k0_off19 c = ![(sl c 6).val] := by decide +kernel
theorem off20_eq : ∀ c : Dev nD, on c 6 = true → k0_off20 c = ![(sl c 6).val, 0, 0] := by decide +kernel
theorem off21_eq : ∀ c : Dev nD, on c 7 = true → k0_off21 c = ![(sl c 7).val] := by decide +kernel
theorem off22_eq : ∀ c : Dev nD, on c 7 = true → k0_off22 c = ![(sl c 7).val, 0, 0] := by decide +kernel
theorem off23_eq : ∀ c : Dev nD, on c 7 = true → k0_off23 c = ![(sl c 7).val] := by decide +kernel
theorem off24_eq : ∀ c : Dev nD, on c 7 = true → k0_off24 c = ![(sl c 7).val, 0, 0] := by decide +kernel
theorem off25_eq : ∀ c : Dev nD, on c 8 = true → k0_off25 c = ![(sl c 8).val] := by decide +kernel
theorem off26_eq : ∀ c : Dev nD, on c 8 = true → k0_off26 c = ![(sl c 8).val, 0, 0] := by decide +kernel
theorem off27_eq : ∀ c : Dev nD, on c 9 = true → k0_off27 c = ![(sl c 9).val] := by decide +kernel
theorem off28_eq : ∀ c : Dev nD, on c 9 = true → k0_off28 c = ![(sl c 9).val, 0, 0] := by decide +kernel
theorem off29_eq : ∀ c : Dev nD, on c 9 = true → k0_off29 c = ![(sl c 9).val] := by decide +kernel
theorem off30_eq : ∀ c : Dev nD, on c 9 = true → k0_off30 c = ![(sl c 9).val, 0, 0] := by decide +kernel
theorem off31_eq : ∀ c : Dev nD, on c 10 = true → k0_off31 c = ![(sl c 10).val] := by decide +kernel
theorem off32_eq : ∀ c : Dev nD, on c 10 = true → k0_off32 c = ![(sl c 10).val, 0, 0] := by decide +kernel
theorem off33_eq : ∀ c : Dev nD, on c 11 = true → k0_off33 c = ![(sl c 11).val] := by decide +kernel
theorem off34_eq : ∀ c : Dev nD, on c 11 = true → k0_off34 c = ![(sl c 11).val, 0, 0] := by decide +kernel
theorem off35_eq : ∀ c : Dev nD, on c 11 = true → k0_off35 c = ![(sl c 11).val] := by decide +kernel
theorem off36_eq : ∀ c : Dev nD, on c 11 = true → k0_off36 c = ![(sl c 11).val, 0, 0] := by decide +kernel
theorem off37_eq : ∀ c : Dev nD, on c 12 = true → k0_off37 c = ![(sl c 12).val] := by decide +kernel
theorem off38_eq : ∀ c : Dev nD, on c 12 = true → k0_off38 c = ![(sl c 12).val, 0, 0] := by decide +kernel
theorem off39_eq : ∀ c : Dev nD, on c 12 = true → k0_off39 c = ![(sl c 12).val] := by decide +kernel
theorem off40_eq : ∀ c : Dev nD, on c 12 = true → k0_off40 c = ![(sl c 12).val, 0, 0] := by decide +kernel
theorem off41_eq : ∀ (c : Dev nD) (i : Fin 4), k0_off41 c (BitVec.ofNat 32 i.val) = ![(ox c i).val] := by decide +kernel
theorem off42_eq : ∀ (c : Dev nD) (i : Fin 4), k0_off42 c (BitVec.ofNat 32 i.val) = ![(ox c i).val, 0, 0] := by decide +kernel
theorem off43_eq : ∀ c : Dev nD, on c 1 = true → k0_off43 c = ![(sl c 1).val, 0, 0] := by decide +kernel
theorem off44_eq : ∀ c : Dev nD, on c 2 = true → k0_off44 c = ![(sl c 2).val, 0, 0] := by decide +kernel
theorem off45_eq : ∀ c : Dev nD, on c 3 = true → k0_off45 c = ![(sl c 3).val, 0, 0] := by decide +kernel
theorem off46_eq : ∀ c : Dev nD, on c 4 = true → k0_off46 c = ![(sl c 4).val, 0, 0] := by decide +kernel
theorem off47_eq : ∀ c : Dev nD, on c 5 = true → k0_off47 c = ![(sl c 5).val, 0, 0] := by decide +kernel
theorem off48_eq : ∀ c : Dev nD, on c 6 = true → k0_off48 c = ![(sl c 6).val, 0, 0] := by decide +kernel
theorem off49_eq : ∀ c : Dev nD, on c 7 = true → k0_off49 c = ![(sl c 7).val, 0, 0] := by decide +kernel
theorem off50_eq : ∀ c : Dev nD, on c 8 = true → k0_off50 c = ![(sl c 8).val, 0, 0] := by decide +kernel
theorem off51_eq : ∀ c : Dev nD, on c 9 = true → k0_off51 c = ![(sl c 9).val, 0, 0] := by decide +kernel
theorem off52_eq : ∀ c : Dev nD, on c 10 = true → k0_off52 c = ![(sl c 10).val, 0, 0] := by decide +kernel
theorem off53_eq : ∀ c : Dev nD, on c 11 = true → k0_off53 c = ![(sl c 11).val, 0, 0] := by decide +kernel
theorem off54_eq : ∀ c : Dev nD, on c 12 = true → k0_off54 c = ![(sl c 12).val, 0, 0] := by decide +kernel

end Cert.Proof
-- ==== Proof.Steps.lean ====
module

public import proofs.«01_k».proof.Proof.Sched
public import proofs.«01_k».proof.Proof.Offs

@[expose] public section

/-! One rule for each kind of step the kernel takes, with the device left a variable: a load of the argument, a
    signal, a copy to another device, a wait; and the same under the program's own conditions. -/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

abbrev 𝒱₀ : Variants := Variants.none

variable (m : (ℓ : Loc nD τ sig) → Buf (Elt F) ℓ) (κ : Dev nD × Fin 32 → ℕ)

/-- What every device knows: each cell's protocol and that its round has begun, and the levels. -/
def ctx : sProp 𝕄 :=
  iprop(levAts L lv ∗ □ bigSep Finset.univ (fun ck : Dev nD × Fin 32 =>
    iprop(cellInv ER (Rd m) (κ ck) (kcell ck) ∗ reached ER (kcell ck) 0)))

instance ctx_persistent : Persistent (ctx m κ) := by unfold ctx; infer_instance

theorem ctx_lev : (ctx m κ : sProp 𝕄) ⊢ levAts L lv := by
  unfold ctx; iintro ⟨H, -⟩; iexact H
theorem ctx_k (p : Dev nD) (n : Fin 32) :
    (ctx m κ : sProp 𝕄) ⊢ iprop(cellInv ER (Rd m) (κ (p, n)) (kcell (p, n)) ∗ reached ER (kcell (p, n)) 0) := by
  have h : (bigSep Finset.univ (fun ck : Dev nD × Fin 32 => iprop(cellInv ER (Rd m) (κ ck) (kcell ck) ∗ reached ER (kcell ck) 0)) : sProp 𝕄)
      ⊢ iprop(cellInv ER (Rd m) (κ (p, n)) (kcell (p, n)) ∗ reached ER (kcell (p, n)) 0) := bigSep_elim (Finset.mem_univ (p, n))
  unfold ctx; iintro ⟨-, #H⟩
  iapply h
  iexact H
theorem ctx_d (p : Dev nD) (n : Fin 31) :
    (ctx m κ : sProp 𝕄) ⊢ iprop(cellInv ER (Rd m) (κ (p, n.castSucc)) (dcell p n) ∗ reached ER (dcell p n) 0) := by
  have h := ctx_k m κ p n.castSucc
  unfold kcell at h; rw [ksem_own] at h; exact h
theorem ctx_b (p : Dev nD) :
    (ctx m κ : sProp 𝕄) ⊢ iprop(cellInv ER (Rd m) (κ (p, 31)) (bcell p) ∗ reached ER (bcell p) 0) := ctx_k m κ p 31

/-- What device `c` owes from its `t`-th payment on, whatever it has waited for. -/
def Owes (c : Dev nD) (t : ℕ) : sProp 𝕄 := iprop(∃ W, owes (c : Thread nD τ) (Ow c t) W)
/-- Device `c` stands at the beginning of its copy cell `n`. -/
def pos (c : Dev nD) (n : Fin 31) : sProp 𝕄 := atPos ER (dcell c n) 0 ∅ 0
/-- Its copy cell `n` is done with, its counter back at zero. -/
def fin (c : Dev nD) (n : Fin 31) : sProp 𝕄 := semVal (dcell c n) 0
/-- The right to make the landing on copy cell `n` of device `p`. -/
def tok (p : Dev nD) (n : Fin 31) : sProp 𝕄 := dutyTok ER (dcell p n) 0 0
/-- The credit to wait for a landing of a slot on copy cell `n` of device `c`. -/
def crd (c : Dev nD) (n : Fin 31) : sProp 𝕄 := cred (tallyAt (dcell c n) () NP)

section Steps

variable (c : Dev nD) {α : Type} {Q : α → sProp (MT nD τ sig Unit (Elt F) ℕ UU ℕ)} {K : Prog (TpuEff nD τ sig (Elt F) Λ₀ .tc) α}

local notation "WP" => wp frame (wpE (defs₀ (F := F)) 𝒱₀ (c : Thread nD τ) none) Set.univ

/-- The barrier's `k`-th signal, handing over what its duty asks. -/
theorem step_signal (k : Fin 8) (p : Dev nD) (hp : p = bt c k) {s : Sem sig} (hs : s = barS) {w : ℕ} (hw : w = 1) :
    iprop(ctx m κ ∗ Owes c k.val ∗ dutyTok ER (bcell (bt c k)) 0 (bd c k) ∗ barPay (bt c k) (bd c k))
      ⊢ iprop((Owes c (k.val + 1) -∗ WP K Q) -∗ WP (.op (.semSignal (p : Thread nD τ) s w) fun _ => K) Q) := by
  subst hp hs hw
  unfold Owes
  iintro ⟨#Hc, ⟨%W, HO⟩, Ht, Hp⟩ Hk
  ihave #Hb := (ctx_b m κ (bt c k)) $$ Hc
  icases Hb with ⟨Hi, Hr⟩
  iapply (Rounds.wp_signal 𝒱₀ ER (Rd m) (c : Thread nD τ) none (dst := (bt c k : Thread nD τ)) (κ := κ (bt c k, 31)) (r := 0) (d := bd c k)
      (by rw [duties_b]; exact Finset.mem_univ _) (amount_b m (bt c k) 0 (bd c k)) () (O₀ := Ow c k.val) (Ow c (k.val + 1))
      (by rw [← payT_bar]; exact Ow_step c (show k.val < 24 by have := k.isLt; omega))) $$ [HO Ht Hp]
  · isplitr; · iexact Hi
    isplitl [HO]; · iexact HO
    isplitl [Ht]; · iexact Ht
    isplitl [Hp]; · rw [payload_b]; iexact Hp
    iexact Hr
  iintro HO
  iapply Hk
  iexists W; iexact HO

/-- Starting the `k`-th load. -/
theorem step_load (k : Fin 4) {sr : Memref sig .tc .hbm S1024x128 .f32} (hsr : sr = lM c k)
    {ds : Memref sig .tc .vmem S1024x128 .f32} (hds : ds = slot xM k) {s : DmaSem sig} (hs : s = own (nl k))
    {h1 : sr.view.WordExact} {h2 : ds.view.WordExact} {h3 : DmaTarget.Typed (nD := nD) .hbm (.dma s) (.here (p := .tc) ds)} :
    iprop(ctx m κ ∗ aHold m c k ∗ any xM c k ∗ tok c (nl k))
      ⊢ iprop((cred (tallyAt (dcell c (nl k)) () NX) -∗ WP K Q) -∗ WP (.op (.enqueueDma sr (.here ds) (.dma s) h1 h2 h3) fun _ => K) Q) := by
  subst hsr hds hs
  unfold aHold any tok hold
  iintro ⟨#Hc, Ha, ⟨%f, Hx⟩, Ht⟩ Hk
  ihave #Hb := (ctx_d m κ c (nl k)) $$ Hc
  icases Hb with ⟨Hi, Hr⟩
  iapply (Rounds.wp_copy_pointsTo 𝒱₀ ER (Rd m) (c : Thread nD τ) none (κ := κ (c, (nl k).castSucc)) (r := 0) (d := 0)
      (by rw [duties_d m c (nl k) (has_nl c k)]; exact Finset.mem_singleton_self _) () NX (show (slot xM k).view.amount (.dma (own (nl k))) = NX from credit_x k) (amount_l m c k 0 0)
      (by
        rw [payload_d, dPay_l]
        refine sep_mono (Entails.of_eq ?_) .rfl
        exact hold_write xM c fullShare f k _ (read_XS m c k))) $$ [Ha Hx Ht]
  · isplitr; · iexact Hi
    isplitl [Ha]; · iexact Ha
    isplitl [Hx]; · iexact Hx
    isplitl [Ht]; · iexact Ht
    iexact Hr
  iintro H
  iapply Hk
  iexact H

/-- A copy of a slot to another device. -/
theorem step_send {n₁ n₂ : ℕ} (t : ℕ) (ht : t < 24) {M₁ : Memref sig .tc .vmem (SB n₁) .bf16} {M₂ : Memref sig .tc .vmem (SB n₂) .bf16}
    (j₁ : Fin n₁) (j₂ : Fin n₂) (p' : Dev nD) (a b : Fin 31) (q : PosShare TreeShare)
    (f₁ : Buf (Elt F) (M₁.view.loc (c : Thread nD τ))) (f₂ : Buf (Elt F) (M₂.view.loc (p' : Thread nD τ)))
    (ha : has c a = true) (hb : has p' b = true) (ha4 : 4 ≤ a.val) (hb4 : 4 ≤ b.val)
    (hpay : payT c t = tallyAt (dcell p' b) () NP) (hN : (slot M₂ j₂).view.dmaCredit = NP)
    (hpa : dPay m c a = hold M₁ c q f₁ j₁) (hpb : dPay m p' b = hold M₂ p' fullShare f₂ j₂)
    (hval : (slot M₂ j₂).view.read (Elt F) f₂ = (slot M₁ j₁).view.read (Elt F) f₁)
    {p : Dev nD} (hp : p = p') {sr : Memref sig .tc .vmem S1024x128 .bf16} (hsr : sr = slot M₁ j₁)
    {ds : Memref sig (Dev.tc p : Thread nD τ).2.kind .vmem S1024x128 .bf16} (hds : ds = slot M₂ j₂) {sa sb : DmaSem sig} (hsa : sa = own a) (hsb : sb = own b)
    {hsc : ds.view.ref.isScScratch = false} {h1 : sr.view.WordExact} {h2 : ds.view.WordExact}
    {h3 : DmaTarget.Typed .vmem (.dma sb) (.remote (Dev.tc p : Thread nD τ) ds (.dma sa) hsc)} :
    iprop(ctx m κ ∗ hold M₁ c q f₁ j₁ ∗ any M₂ p' j₂ ∗ Owes c t ∗ tok c a ∗ tok p' b)
      ⊢ iprop(((crd c a ∗ Owes c (t + 1)) -∗ WP K Q)
        -∗ WP (.op (.enqueueDma sr (.remote (Dev.tc p : Thread nD τ) ds (.dma sa) hsc) (.dma sb) h1 h2 h3) fun _ => K) Q) := by
  subst hp hsr hsa hsb
  subst hds
  unfold any tok Owes crd
  iintro ⟨#Hc, Hs, ⟨%fd, Hd⟩, ⟨%W, HO⟩, Hta, Htb⟩ Hk
  ihave #Hb := (ctx_d m κ c a) $$ Hc
  icases Hb with ⟨Hi, Hr⟩
  ihave #Hb' := (ctx_d m κ p b) $$ Hc
  icases Hb' with ⟨Hi', Hr'⟩
  unfold hold
  iapply (Rounds.wp_send_pointsTo 𝒱₀ ER (Rd m) (c : Thread nD τ) none (c' := (p : Thread nD τ)) (src := slot M₁ j₁) (dst := slot M₂ j₂) (κ₁ := κ (c, a.castSucc)) (κ₂ := κ (p, b.castSucc))
      (r₁ := 0) (r₂ := 0) (d₁ := 0) (d₂ := 0) (fd := fd)
      (by rw [duties_d m c a ha]; exact Finset.mem_singleton_self _) (by rw [duties_d m p b hb]; exact Finset.mem_singleton_self _)
      () () NP (show (slot M₂ j₂).view.amount (.dma (own b)) = NP from hN) (amount_d m c a ha4 0 0) (amount_d m p b hb4 0 0) (O₀ := Ow c t) (Ow c (t + 1)) (by rw [← hpay]; exact Ow_step c ht) (W := W)
      (by rw [payload_d, hpa]; exact .rfl)
      (by rw [payload_d, hpb]; exact Entails.of_eq (hold_write M₂ p fullShare fd j₂ _ hval))) $$ [Hs Hd HO Hta Htb]
  · isplitr; · iexact Hi
    isplitr; · iexact Hi'
    isplitl [Hs]; · iexact Hs
    isplitl [Hd]; · iexact Hd
    isplitl [HO]; · iexact HO
    isplitl [Hta]; · iexact Hta
    isplitr; · iexact Hr
    isplitl [Htb]; · iexact Htb
    iexact Hr'
  iintro ⟨H, HO⟩
  iapply Hk
  isplitl [H]; · iexact H
  iexists W; iexact HO

/-- Waiting for a landing, after which its cell is done with. -/
theorem step_wait {sp sp' : Space} {s s' : Shape} {e e' : EltTy} (n : Fin 31) (N t l : ℕ) (hn : has c n = true)
    (hN : (Rd (F := F) m).expect (dcell c n) 0 = N)
    (hl : lv (dcell c n) () ≤ l) (hlv : ∀ i, t ≤ i → i < 24 → pon c i = true → l < lv (pcell c i) ())
    {sm : DmaSem sig} (hsm : sm = own n) {sr : Memref sig .tc sp s e} {ds : Memref sig .tc sp' s' e'} (hds : ds.view.dmaCredit = N)
    {h1 : sr.view.WordExact} {h2 : ds.view.WordExact} :
    iprop(ctx m κ ∗ cred (tallyAt (dcell c n) () N) ∗ Owes c t ∗ pos c n)
      ⊢ iprop(((fin c n ∗ Owes c t ∗ dPay m c n) -∗ WP K Q) -∗ WP (.op (.waitDma2 sm sr ds h1 h2) fun _ => K) Q) := by
  subst hsm hds
  unfold Owes pos fin
  iintro ⟨#Hc, Hcr, ⟨%W, HO⟩, Hat⟩ Hk
  ihave #Hb := (ctx_d m κ c n) $$ Hc
  icases Hb with ⟨Hi, Hr⟩
  iapply (Rounds.wp_wait_rest_token 𝒱₀ ER (Rd m) (c : Thread nD τ) none (κ := κ (c, n.castSucc)) (sm := .dma (own n)) (k' := ds.view.dmaCredit) (Q := Q) (k := fun _ => K)
      (wpE_waitDma2_eq 𝒱₀ (c : Thread nD τ) none Set.univ (sem := own n) (src := sr) (dst := ds) (hsrc := h1) (hdst := h2)) (Set.mem_univ _) () (O := Ow c t) (W := W) (R := 0) (m := 0) (T := ∅)
      ((Nat.zero_add _).trans hN.symm)) $$ [Hcr HO Hat]
  · isplitr; · iexact Hi
    isplitl [Hcr]; · iexact Hcr
    isplitl [HO]; · iexact HO
    isplitr; · iapply ((ctx_lev m κ).trans (mayWait c (.dma (own n)) t l hl hlv)); iexact Hc
    iexact Hat
  iintro ⟨HO, Hat, -, Hpay⟩
  ihave Hp := (Entails.of_eq (rest_d m c n hn)) $$ Hpay
  imod (Rounds.cell_close ER (Rd m) (Set.mem_univ (κ (c, n.castSucc))) (fun h => h) (R := 0 + 1) (duties_later m (dcell c n))) $$ [Hat] with Hz
  · isplitr; · iexact Hi
    iexact Hat
  iapply Hk
  isplitl [Hz]; · iexact Hz
  isplitl [HO]; · iexists _; iexact HO
  iexact Hp

/-- A cell nothing lands on is done with. -/
theorem close_none (n : Fin 31) (hn : has c n = false) :
    iprop(ctx m κ ∗ pos c n) ⊢ (iprop(|={Set.univ}=> fin c n) : sProp 𝕄) := by
  unfold pos fin
  iintro ⟨#Hc, Hat⟩
  ihave #Hb := (ctx_d m κ c n) $$ Hc
  icases Hb with ⟨Hi, Hr⟩
  iapply (Rounds.cell_close ER (Rd m) (Set.mem_univ (κ (c, n.castSucc))) (fun h => h) (R := 0) (duties_none m c n hn))
  isplitr; · iexact Hi
  iexact Hat

/-- Waiting for the barrier: all that its eight duties hand over. -/
theorem step_bar {s : Sem sig} (hs : s = barS) {w : ℕ} (hw : w = 8)
    (hlv : ∀ i, 8 ≤ i → i < 24 → pon c i = true → 1 < lv (pcell c i) ()) :
    iprop(ctx m κ ∗ cred (tallyAt (bcell c) () 8) ∗ Owes c 8 ∗ atPos ER (bcell c) 0 ∅ 0)
      ⊢ iprop(((semVal (bcell c) 0 ∗ Owes c 8 ∗ bigSep Finset.univ (barPay c)) -∗ WP K Q) -∗ WP (.op (.semWait s w) fun _ => K) Q) := by
  subst hs hw
  unfold Owes
  iintro ⟨#Hc, Hcr, ⟨%W, HO⟩, Hat⟩ Hk
  ihave #Hb := (ctx_b m κ c) $$ Hc
  icases Hb with ⟨Hi, Hr⟩
  iapply (Rounds.wp_wait_rest_token 𝒱₀ ER (Rd m) (c : Thread nD τ) none (κ := κ (c, 31)) (sm := .reg barS) (k' := 8) (Q := Q) (k := fun _ => K)
      (wpE_semWait_eq 𝒱₀ (c : Thread nD τ) none Set.univ (sem := barS) (k := 8)) (Set.mem_univ _) () (O := Ow c 8) (W := W) (R := 0) (m := 0) (T := ∅)
      ((Nat.zero_add 8).trans (expect_b m c).symm)) $$ [Hcr HO Hat]
  · isplitr; · iexact Hi
    isplitl [Hcr]; · iexact Hcr
    isplitl [HO]; · iexact HO
    isplitr; · iapply ((ctx_lev m κ).trans (mayWait c (.reg barS) 8 1 le_rfl hlv)); iexact Hc
    iexact Hat
  iintro ⟨HO, Hat, -, Hpay⟩
  imod (Rounds.cell_close ER (Rd m) (Set.mem_univ (κ (c, 31))) (fun h => h) (R := 0 + 1) (duties_later m (bcell c))) $$ [Hat] with Hz
  · isplitr; · iexact Hi
    iexact Hat
  iapply Hk
  isplitl [Hz]; · iexact Hz
  isplitl [HO]; · iexists _; iexact HO
  rw [Finset.sdiff_empty, duties_b]
  iexact Hpay

/-! ## Under conditions -/

theorem cnd_true {b : Bool} (h : b = true) (P : sProp 𝕄) : cnd b P = P := by unfold cnd; rw [if_pos h]
theorem cnd_false {b : Bool} (h : b = false) (P : sProp 𝕄) : cnd b P = iprop(emp) := by
  unfold cnd; rw [if_neg (by rw [h]; decide)]

/-- What the second phase's `k`-th copy takes. -/
def sIn (k : Fin 13) : sProp 𝕄 :=
  cnd (on c k) iprop(hold pM c (qp k) (PV m c) (sl c k) ∗ any pM (tg c k) (sl c k) ∗ tok c (ss k) ∗ tok (tg c k) (rs (sl c k)))
/-- What it leaves: the credit to wait for its end. -/
def sOut (k : Fin 13) : sProp 𝕄 := cnd (on c k) (crd c (ss k))

theorem yV_tg (k : Fin 13) (h : on c k = true) :
    (slot pM (sl c k)).view.read (Elt F) (PV m (tg c k)) = (slot pM (sl c k)).view.read (Elt F) (PV m c) := by
  rw [read_PV, read_PV, zc_tg c k h]

theorem has_tg (k : Fin 13) (h : on c k = true) : has (tg c k) (rs (sl c k)) = true := by
  rw [has_rs]; exact decide_eq_true (src_of c k h).1
theorem rs_ge (j : Fin 8) : 4 ≤ (rs j).val := by unfold rs; show 4 ≤ 23 + j.val; omega

/-- The second phase's `k`-th copy, made where the mesh has its target. -/
theorem step_fwd (k : Fin 13) (h : on c k = true)
    {p : Dev nD} (hp : p = tg c k) {sr : Memref sig .tc .vmem S1024x128 .bf16} (hsr : sr = slot pM (sl c k))
    {ds : Memref sig (Dev.tc p : Thread nD τ).2.kind .vmem S1024x128 .bf16} (hds : ds = slot pM (sl c k)) {sa sb : DmaSem sig}
    (hsa : sa = own (ss k)) (hsb : sb = own (rs (sl c k)))
    {hsc : ds.view.ref.isScScratch = false} {h1 : sr.view.WordExact} {h2 : ds.view.WordExact}
    {h3 : DmaTarget.Typed .vmem (.dma sb) (.remote (Dev.tc p : Thread nD τ) ds (.dma sa) hsc)} :
    iprop(ctx m κ ∗ sIn m c k ∗ Owes c (11 + k.val))
      ⊢ iprop(((sOut c k ∗ Owes c (11 + k.val + 1)) -∗ WP K Q)
        -∗ WP (.op (.enqueueDma sr (.remote (Dev.tc p : Thread nD τ) ds (.dma sa) hsc) (.dma sb) h1 h2 h3) fun _ => K) Q) := by
  unfold sIn sOut
  rw [cnd_true h, cnd_true h]
  iintro ⟨#Hc, ⟨H1, H2, H3, H4⟩, HO⟩
  iapply (step_send m κ c (11 + k.val) (by have := k.isLt; omega) (M₁ := pM) (M₂ := pM) (sl c k) (sl c k) (tg c k) (ss k) (rs (sl c k)) (qp k)
    (PV m c) (PV m (tg c k)) (by rw [has_ss, h]) (has_tg c k h) (ss_ge k) (rs_ge _) (by rw [payT_p, if_pos h]) (credit_p _) (dPay_ss m c k) (dPay_rs m (tg c k) (sl c k))
    (yV_tg m c k h) hp hsr hds hsa hsb)
  isplitr; · iexact Hc
  isplitl [H1]; · iexact H1
  isplitl [H2]; · iexact H2
  isplitl [HO]; · iexact HO
  isplitl [H3]; · iexact H3
  iexact H4

/-- A copy not made. -/
theorem skip_fwd (k : Fin 13) (h : on c k = false) : (Owes c (11 + k.val) : sProp 𝕄) = Owes c (11 + k.val + 1) := by
  unfold Owes
  rw [Ow_step c (show 11 + k.val < 24 by have := k.isLt; omega), payT_p, if_neg (by rw [h]; decide), tallyAt_zero, add_zero]

/-- The two ways through a condition. -/
theorem wp_cond {p : Prop} [Decidable p] {P : sProp 𝕄} {A : p → Prog (TpuEff nD τ sig (Elt F) Λ₀ .tc) α} {B : ¬p → Prog (TpuEff nD τ sig (Elt F) Λ₀ .tc) α}
    (hA : ∀ h : p, P ⊢ WP (A h) Q) (hB : ∀ h : ¬p, P ⊢ WP (B h) Q) : P ⊢ WP (dite p A B) Q := by
  by_cases h : p
  · rw [dif_pos h]; exact hA h
  · rw [dif_neg h]; exact hB h

end Steps

end Cert.Proof

end
-- ==== Proof.Guards.lean ====
module

public import proofs.«01_k».proof.Proof.Steps

@[expose] public section

/-!
# The guarded operations of the second phase

A send, a receive or a drain of the second phase is made only where the mesh has its peer. Each lemma here takes
one such operation with its guard: the resources on the two sides are themselves guarded by whether the peer is
there.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

/-- A semaphore of the second phase's receives, picked by an offset. -/
theorem sem_r {o : Fin 1 → ℕ} (j : Fin 8) (h : o = ![j.val]) (hi : ∀ a, o a + S1.size a ≤ S8.size a) :
    ((cc0_scratch10.slice (Rect.unit (s := S8) o S1.size hi)).squeeze S_ squeezes_S1_S_).sem = own (rs j) := by
  subst h; decide +revert
/-- A slot picked by an offset. -/
theorem slot_at {o : Fin 3 → ℕ} (j : Fin 8) (h : o = ![j.val, 0, 0]) (hi : ∀ a, o a + S1x1024x128.size a ≤ (SB 8).size a) :
    (pM.slice (Rect.unit (s := SB 8) o S1x1024x128.size hi) (fun _ => rfl)).squeeze S1024x128 squeezes_S1x1024x128_S1024x128 = slot pM j := by
  subst h; rfl

theorem lv_rs (c : Dev nD) (j : Fin 8) : lv (dcell c (rs j)) () = rlev c j.val := by
  have e : (own (rs j)).val = 25 + j.val := by decide +revert
  unfold lv
  show (if (own (rs j)).val < 9 then 0 else if (own (rs j)).val < 12 then 2 else if (own (rs j)).val < 25 then 0 else rlev c ((own (rs j)).val - 25)) = _
  rw [e, if_neg (by omega), if_neg (by omega), if_neg (by omega), Nat.add_sub_cancel_left]
theorem rlev_ge (c : Dev nD) (j : ℕ) : 3 ≤ rlev c j := by unfold rlev; split_ifs <;> decide
theorem lv_pcell (c : Dev nD) (k : Fin 13) : lv (pcell c (11 + k.val)) () = rlev (tg c k) (sl c k).val := by
  have e : pcell c (11 + k.val) = dcell (tg c k) (rs (sl c k)) := by
    have hk : (Fin.ofNat 13 (11 + k.val - 11)) = k := by
      apply Fin.ext; show (11 + k.val - 11) % 13 = k.val; have := k.isLt; omega
    unfold pcell; rw [if_neg (by omega), if_neg (by omega), hk]
  rw [e, lv_rs]
/-- The level condition of a wait in the second phase. -/
theorem lv_late (c : Dev nD) {t l : ℕ} (ht : 11 ≤ t) (h : ∀ k : Fin 13, t ≤ 11 + k.val → on c k = true → l < rlev (tg c k) (sl c k).val) :
    ∀ i, t ≤ i → i < 24 → pon c i = true → l < lv (pcell c i) () := by
  intro i h1 h2 h3
  obtain ⟨k, rfl⟩ : ∃ k : Fin 13, i = 11 + k.val := ⟨⟨i - 11, by omega⟩, by show i = 11 + (i - 11); omega⟩
  rw [lv_pcell]
  refine h k h1 ?_
  have hk : (Fin.ofNat 13 (11 + k.val - 11)) = k := by
    apply Fin.ext; show (11 + k.val - 11) % 13 = k.val; have := k.isLt; omega
  unfold pon at h3; rwa [if_neg (by omega), hk] at h3
/-- The level condition of a wait in the first phase. -/
theorem lv_early (c : Dev nD) {t l : ℕ} (ht : 8 ≤ t) (hl : l < 2) : ∀ i, t ≤ i → i < 24 → pon c i = true → l < lv (pcell c i) () := by
  intro i h1 h2 h3
  by_cases h : 11 ≤ i
  · obtain ⟨k, rfl⟩ : ∃ k : Fin 13, i = 11 + k.val := ⟨⟨i - 11, by omega⟩, by show i = 11 + (i - 11); omega⟩
    rw [lv_pcell]; have := rlev_ge (tg c k) (sl c k).val; omega
  · have e : ∀ o : Fin 3, (own (nr o)).val < 12 ∧ ¬ (own (nr o)).val < 9 := by decide
    unfold pcell; rw [if_neg (by omega), if_pos (by omega)]
    unfold lv
    show l < (if (own (nr _)).val < 9 then 0 else if (own (nr _)).val < 12 then 2 else _)
    rw [if_neg (e _).2, if_pos (e _).1]; exact hl
/-- Nothing is owed at the end. -/
theorem lv_end (c : Dev nD) {l : ℕ} : ∀ i, 24 ≤ i → i < 24 → pon c i = true → l < lv (pcell c i) () := fun i h1 h2 => by omega

section Guards
variable (c : Dev nD) {α : Type} {Q : α → sProp (MT nD τ sig Unit (Elt F) ℕ UU ℕ)} {K : Prog (TpuEff nD τ sig (Elt F) Λ₀ .tc) α}
local notation "WP" => wp frame (wpE (defs₀ (F := F)) 𝒱₀ (c : Thread nD τ) none) Set.univ

theorem ret_of (a : α) : Q a ⊢ WP (.ret a) Q := by
  rw [wp_ret]; exact fupd_intro

/-- A guarded step: its program where the guard holds, the rest alone elsewhere. -/
@[irreducible] def guarded {β : Type 1} (p : Prop) (A : p → β) (B : β) : β := open Classical in if h : p then A h else B
theorem guarded_pos {β : Type 1} {p : Prop} (h : p) (A : p → β) (B : β) : guarded p A B = A h := by unfold guarded; rw [dif_pos h]
theorem guarded_neg {β : Type 1} {p : Prop} (h : ¬p) (A : p → β) (B : β) : guarded p A B = B := by unfold guarded; rw [dif_neg h]
theorem guarded_of {β : Type 1} {p : Prop} [Decidable p] (A : p → β) (B : β) : (if h : p then A h else B) = guarded p A B := by
  by_cases h : p
  · rw [dif_pos h, guarded_pos h]
  · rw [dif_neg h, guarded_neg h]

/-- A guarded copy of the second phase. -/
theorem send_if (k : Fin 13) (t t' : ℕ) (ht : t = 11 + k.val) (ht' : t' = 11 + k.val + 1) {p : Prop} (hp : p ↔ on c k = true)
    {dv : p → Dev nD} (hdv : ∀ h, dv h = tg c k)
    {sr : p → Memref sig .tc .vmem S1024x128 .bf16} (hsr : ∀ h, on c k = true → sr h = slot pM (sl c k))
    {ds : ∀ h : p, Memref sig (Dev.tc (dv h) : Thread nD τ).2.kind .vmem S1024x128 .bf16} (hds : ∀ h, on c k = true → ds h = slot pM (sl c k))
    {sa sb : p → DmaSem sig} (hsa : ∀ h, sa h = own (ss k)) (hsb : ∀ h, on c k = true → sb h = own (rs (sl c k)))
    {hsc : ∀ h, (ds h).view.ref.isScScratch = false} {h1 : ∀ h, (sr h).view.WordExact} {h2 : ∀ h, (ds h).view.WordExact}
    {h3 : ∀ h, DmaTarget.Typed .vmem (.dma (sb h)) (.remote (Dev.tc (dv h) : Thread nD τ) (ds h) (.dma (sa h)) (hsc h))} :
    iprop(ctx m κ ∗ sIn m c k ∗ Owes c t)
      ⊢ iprop(((sOut c k ∗ Owes c t') -∗ WP K Q)
        -∗ WP (guarded p (fun h => .op (.enqueueDma (sr h) (.remote (Dev.tc (dv h) : Thread nD τ) (ds h) (.dma (sa h)) (hsc h)) (.dma (sb h)) (h1 h) (h2 h) (h3 h)) fun _ => K)
            K) Q) := by
  subst ht ht'
  by_cases h : p
  · have hk := hp.mp h
    rw [guarded_pos h]
    exact step_fwd m κ c k hk (hdv h) (hsr h hk) (hds h hk) (hsa h) (hsb h hk)
  · rw [guarded_neg h]
    have hk : on c k = false := by simpa using fun e => h (hp.mpr e)
    unfold sOut; rw [cnd_false hk, ← skip_fwd c k hk]
    iintro ⟨-, -, Ho⟩ HK
    iapply HK
    isplitr [Ho]
    · iempintro
    · iexact Ho

/-- What a guarded receive takes. -/
def wIn (k : Fin 13) : sProp 𝕄 := cnd (on c k) iprop(pos c (rs (sl c k)) ∗ crd c (rs (sl c k)))
/-- What it leaves: the slot, filled. -/
def wOut (k : Fin 13) : sProp 𝕄 := cnd (on c k) iprop(fin c (rs (sl c k)) ∗ hold pM c fullShare (PV m c) (sl c k))

/-- A guarded receive of the second phase. -/
theorem recv_if (k : Fin 13) (t : ℕ) {p : Prop} (hp : p ↔ on c k = true) (hh : on c k = true → has c (rs (sl c k)) = true)
    (hlv : on c k = true → ∀ i, t ≤ i → i < 24 → pon c i = true → rlev c (sl c k).val < lv (pcell c i) ())
    {sm : p → DmaSem sig} (hsm : ∀ h, on c k = true → sm h = own (rs (sl c k)))
    {sr ds : p → Memref sig .tc .vmem S1024x128 .bf16} (hds : ∀ h, on c k = true → ds h = slot pM (sl c k))
    {h1 : ∀ h, (sr h).view.WordExact} {h2 : ∀ h, (ds h).view.WordExact} :
    iprop(ctx m κ ∗ wIn c k ∗ Owes c t)
      ⊢ iprop(((wOut m c k ∗ Owes c t) -∗ WP K Q)
        -∗ WP (guarded p (fun h => .op (.waitDma2 (sm h) (sr h) (ds h) (h1 h) (h2 h)) fun _ => K) K) Q) := by
  by_cases h : p
  · have hk := hp.mp h
    rw [guarded_pos h]
    unfold wIn wOut crd; rw [cnd_true hk, cnd_true hk]
    iintro ⟨#Hc, ⟨Hp, Hcr⟩, Ho⟩ HK
    iapply (step_wait m κ c (rs (sl c k)) NP t (rlev c (sl c k).val) (hh hk) (expect_d m c _ (rs_ge _) (hh hk)) (by rw [lv_rs]) (hlv hk)
      (hsm h hk) (by rw [hds h hk]; exact credit_p _)) $$ [Hp Hcr Ho]
    · isplitr; · iexact Hc
      isplitl [Hcr]; · iexact Hcr
      isplitl [Ho]; · iexact Ho
      iexact Hp
    · rw [dPay_rs]
      iintro ⟨Hf, Ho, Hh⟩
      iapply HK
      isplitr [Ho]
      · isplitl [Hf]; · iexact Hf
        iexact Hh
      · iexact Ho
  · rw [guarded_neg h]
    have hk : on c k = false := by simpa using fun e => h (hp.mpr e)
    unfold wOut; rw [cnd_false hk]
    iintro ⟨-, -, Ho⟩ HK
    iapply HK
    isplitr [Ho]
    · iempintro
    · iexact Ho

/-- What a guarded drain leaves: the cell done with and the share of the slot the copy read. -/
def drained (k : Fin 13) : sProp 𝕄 := iprop(fin c (ss k) ∗ cnd (on c k) (hold pM c (qp k) (PV m c) (sl c k)))

/-- A guarded drain of a send. -/
theorem drain_if (k : Fin 13) {p : Prop} (hp : p ↔ on c k = true)
    {sm : p → DmaSem sig} (hsm : ∀ h, sm h = own (ss k))
    {sr ds : p → Memref sig .tc .vmem S1024x128 .bf16} (hds : ∀ h, on c k = true → ds h = slot pM (sl c k))
    {h1 : ∀ h, (sr h).view.WordExact} {h2 : ∀ h, (ds h).view.WordExact} :
    iprop(ctx m κ ∗ sOut c k ∗ pos c (ss k) ∗ Owes c 24)
      ⊢ iprop(((drained m c k ∗ Owes c 24) -∗ WP K Q)
        -∗ WP (guarded p (fun h => .op (.waitDma2 (sm h) (sr h) (ds h) (h1 h) (h2 h)) fun _ => K) K) Q) := by
  by_cases h : p
  · have hk := hp.mp h
    have hh : has c (ss k) = true := by rw [has_ss, hk]
    rw [guarded_pos h]
    unfold sOut drained crd; rw [cnd_true hk, cnd_true hk]
    iintro ⟨#Hc, Hcr, Hp, Ho⟩ HK
    iapply (step_wait m κ c (ss k) NP 24 (lv (dcell c (ss k)) ()) hh (expect_d m c _ (ss_ge _) hh) le_rfl (lv_end c)
      (hsm h) (by rw [hds h hk]; exact credit_p _)) $$ [Hp Hcr Ho]
    · isplitr; · iexact Hc
      isplitl [Hcr]; · iexact Hcr
      isplitl [Ho]; · iexact Ho
      iexact Hp
    · rw [dPay_ss]
      iintro ⟨Hf, Ho, Hh⟩
      iapply HK
      isplitr [Ho]
      · isplitl [Hf]; · iexact Hf
        iexact Hh
      · iexact Ho
  · rw [guarded_neg h]
    have hk : on c k = false := by simpa using fun e => h (hp.mpr e)
    have hh : has c (ss k) = false := by rw [has_ss, hk]
    unfold drained; rw [cnd_false hk]
    iintro ⟨#Hc, -, Hp, Ho⟩ HK
    ihave Hf := (close_none m κ c (ss k) hh) $$ [Hp]
    · isplitr; · iexact Hc
      iexact Hp
    imod Hf with Hf
    iapply HK
    isplitr [Ho]
    · isplitl [Hf]; · iexact Hf
      iempintro
    · iexact Ho

end Guards
end Cert.Proof
end
-- ==== Proof.Access.lean ====
module

public import proofs.«01_k».proof.Proof.Guards

@[expose] public section

/-!
# Reading and writing the stacks' slots

The vector operations of the body: reading a slot, overwriting a slot, reading a window's block.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

/-- A part of the body at the call's own operands. -/
abbrev app {β : Type 1} (f : ∀ (a0 : Memref sig .tc .hbm S4096x1024 .f32) (_ : a0.IsWhole) (a1 : Memref sig .tc .vmem S1x1024 .f32) (_ : a1.IsWhole)
    (a2 : Memref sig .tc .vmem S1024x1024 .f32) (_ : a2.IsWhole) (a3 : Memref sig .tc .vmem S4x1024x128 .f32) (_ : a3.IsWhole)
    (a4 : Memref sig .tc .vmem S3x1024x128 .bf16) (_ : a4.IsWhole) (a5 : Memref sig .tc .vmem S3x1024x128 .bf16) (_ : a5.IsWhole)
    (a6 : Memref sig .tc .vmem S8x1024x128 .bf16) (_ : a6.IsWhole) (_ : DmaSems sig S4) (_ : DmaSems sig S3) (_ : DmaSems sig S3)
    (_ : DmaSems sig S5) (_ : DmaSems sig S6) (_ : DmaSems sig S2) (_ : DmaSems sig S8), β) : β :=
  f aM (Memref.isWhole_whole _) gM (Memref.isWhole_whole _) oM (Memref.isWhole_whole _) xM (Memref.isWhole_whole _) tM (Memref.isWhole_whole _)
    rM (Memref.isWhole_whole _) pM (Memref.isWhole_whole _) cc0_scratch4 cc0_scratch5 cc0_scratch6 cc0_scratch7 cc0_scratch8 cc0_scratch9 cc0_scratch10

/-- A whole memref's slot read through the stack. -/
theorem readAt_slot {n : ℕ} {e : EltTy} (M : Memref sig .tc .vmem (SB n) e) (j : Fin n) (f : M.view.ty.Contents (Elt F)) :
    M.view.readAt (Elt F) (rSlot j).toLoadRect f = up ((slot M j).view.read (Elt F) f) := by
  funext i
  have h0 : i 0 = (⟨0, Nat.one_pos⟩ : Fin 1) := Fin.ext (by have := (i 0).isLt; have : (i 0).val < 1 := this; show (i 0).val = 0; omega)
  refine Eq.trans ?_ (read_slot M j f (fun a => i a.succ)).symm
  refine (congrArg (M.view.read (Elt F) f) ?_).trans (congrArg (M.view.read (Elt F) f) (rSlot_emb j _))
  show (rSlot j).emb i = _
  congr 1
  funext a
  refine Fin.cases ?_ (fun b => ?_) a
  · exact h0
  · rfl

/-- A slot's contents as a store through the stack takes them. -/
theorem cast_up {e : EltTy} (v : Vec F S1024x128 e) : shapeCast S1x1024x128 v shapeCasts_S1024x128_S1x1024x128 = up v := by
  funext i; exact shapeCast_addUnit_apply ![1024, 128] v shapeCasts_S1024x128_S1x1024x128 i
theorem up_cast {e : EltTy} (v : Vec F S1024x128 e) : shapeCast S1024x128 (up v : Vec F S1x1024x128 e) shapeCasts_S1x1024x128_S1024x128 = v := by
  funext i; exact shapeCast_dropUnit_apply ![1024, 128] (up v) shapeCasts_S1x1024x128_S1024x128 i

section Access
variable (c : Dev nD) {α : Type} {Q : α → sProp (MT nD τ sig Unit (Elt F) ℕ UU ℕ)}
local notation "WP" => wp frame (wpE (defs₀ (F := F)) 𝒱₀ (c : Thread nD τ) none) Set.univ

/-- Reading a slot. -/
theorem step_read {n : ℕ} {e : EltTy} (M : Memref sig .tc .vmem (SB n) e) (j : Fin n) (q : PosShare TreeShare)
    (f : Buf (Elt F) (M.view.loc (c : Thread nD τ))) {o : Fin 3 → ℕ} (ho : o = ![j.val, 0, 0]) {hi : ∀ a, o a + S1x1024x128.size a ≤ (SB n).size a}
    {hl : M.view.LoadsAt (Rect.unit (s := SB n) o S1x1024x128.size hi).toLoadRect}
    {K : Vec F S1x1024x128 e → Prog (TpuEff nD τ sig (Elt F) Λ₀ .tc) α} :
    (hold M c q f j : sProp 𝕄)
      ⊢ iprop((hold M c q f j -∗ WP (K (up ((slot M j).view.read (Elt F) f))) Q)
        -∗ WP (.op (.load M (Rect.unit (s := SB n) o S1x1024x128.size hi).toLoadRect hl) K) Q) := by
  subst ho
  unfold hold
  rw [← readAt_slot]
  exact wp_load 𝒱₀ (c : Thread nD τ) none Set.univ (m := M) (by rw [slot_set])

/-- Reading a slot whatever it holds. -/
theorem step_peek {n : ℕ} {e : EltTy} (M : Memref sig .tc .vmem (SB n) e) (j : Fin n)
    {o : Fin 3 → ℕ} (ho : o = ![j.val, 0, 0]) {hi : ∀ a, o a + S1x1024x128.size a ≤ (SB n).size a}
    {hl : M.view.LoadsAt (Rect.unit (s := SB n) o S1x1024x128.size hi).toLoadRect}
    {K : Prog (TpuEff nD τ sig (Elt F) Λ₀ .tc) α} :
    (any M c j : sProp 𝕄)
      ⊢ iprop((any M c j -∗ WP K Q)
        -∗ WP (.op (.load M (Rect.unit (s := SB n) o S1x1024x128.size hi).toLoadRect hl) fun _ => K) Q) := by
  unfold any
  iintro ⟨%f, H⟩ HK
  iapply (step_read c M j fullShare f ho (hi := hi) (hl := hl) (K := fun _ => K)) $$ H
  iintro H
  iapply HK
  iexists f; iexact H

/-- Overwriting a slot. -/
theorem step_write {n : ℕ} {e : EltTy} (M : Memref sig .tc .vmem (SB n) e) (j : Fin n) (g : Buf (Elt F) (M.view.loc (c : Thread nD τ)))
    {o : Fin 3 → ℕ} (ho : o = ![j.val, 0, 0]) {hi : ∀ a, o a + S1x1024x128.size a ≤ (SB n).size a}
    {w : Vec F S1x1024x128 e} (hw : w = up ((slot M j).view.read (Elt F) g))
    {hx : (M.access (Rect.unit (s := SB n) o S1x1024x128.size hi)).Stores Finset.univ}
    {hm : (Finset.univ : Finset (Rect.unit (s := SB n) o S1x1024x128.size hi).shape.Idx) = Finset.univ ∨ ∀ a, (Rect.unit (s := SB n) o S1x1024x128.size hi).stride a = 1}
    {K : Prog (TpuEff nD τ sig (Elt F) Λ₀ .tc) α} :
    (any M c j : sProp 𝕄)
      ⊢ iprop((hold M c fullShare g j -∗ WP K Q)
        -∗ WP (.op (.store M (Rect.unit (s := SB n) o S1x1024x128.size hi) w Finset.univ hx hm) fun _ => K) Q) := by
  subst ho hw
  have hset : (slot M j).view.set = (M.access (rSlot j)).set := by rw [slot_set]; exact (View.set_slice _ _).symm
  have key : ∀ f : Buf (Elt F) (M.view.loc (c : Thread nD τ)), ∀ i ∈ (slot M j).view.set,
      (M.access (rSlot j)).write (Elt F) f (up ((slot M j).view.read (Elt F) g)) Finset.univ i = g i := by
    intro f i hi
    rw [← readAt_slot]
    rw [hset] at hi
    obtain ⟨x, -, rfl⟩ := Finset.mem_map.mp hi
    rw [View.write_emb_of_mem _ _ (Finset.mem_univ x)]
    show cast _ (M.view.read (Elt F) g ((rSlot j).emb x)) = _
    rw [View.read_apply]; exact cast_cast _ _ _
  unfold any hold
  iintro ⟨%f, H⟩ HK
  iapply (wp_store 𝒱₀ (c : Thread nD τ) none Set.univ (m := M) (r := rSlot j) (Mk := Finset.univ) (f := f) (S := (slot M j).view.set) (hx := hx) (hm := hm)
    (k := fun _ => K) (w := up ((slot M j).view.read (Elt F) g)) (by rw [hset]; exact Finset.Subset.refl _)) $$ H
  iintro H
  iapply HK
  iapply (Entails.of_eq (pointsTo_congr (key f)))
  iexact H

end Access
end Cert.Proof
end
-- ==== Proof.Moves.lean ====
module

public import proofs.«01_k».proof.Proof.Access

@[expose] public section

/-!
# The second phase, part by part

What the parts of the body that move the reduced blocks take and leave.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

/-! ## The blocks received along the way -/

/-- What a copy takes besides the block. -/
def sRest (c : Dev nD) (k : Fin 13) : sProp 𝕄 :=
  cnd (on c k) iprop(any pM (tg c k) (sl c k) ∗ tok c (ss k) ∗ tok (tg c k) (rs (sl c k)))
/-- What is kept of a received block: its cell done with, the share to read it by, a share to hand it on by. -/
def kept (c : Dev nD) (k : Fin 13) : sProp 𝕄 :=
  cnd (on c k) iprop(fin c (rs (sl c k)) ∗ hold pM c keep (PV m c) (sl c k) ∗ hold pM c fullShare.right.right (PV m c) (sl c k))
/-- What is kept of it when its `k'`-th copy hands it on. -/
def kept' (c : Dev nD) (k k' : Fin 13) : sProp 𝕄 :=
  cnd (on c k) iprop(fin c (rs (sl c k)) ∗ hold pM c keep (PV m c) (sl c k) ∗ cnd (!on c k') (hold pM c fullShare.right.right (PV m c) (sl c k)))

theorem has_str (c : Dev nD) (k : Fin 13) (hk : 5 ≤ k) (h : on c k = true) : has c (rs (sl c k)) = true := by
  have e : ∀ (c : Dev nD) (k : Fin 13), 5 ≤ k → on c k = true → has c (rs (sl c k)) = true := by decide +kernel
  exact e c k hk h

theorem three (c : Dev nD) (j : Fin 8) :
    (hold pM c fullShare (PV m c) j : sProp 𝕄)
      ⊣⊢ iprop(hold pM c keep (PV m c) j ∗ hold pM c fullShare.right.left (PV m c) j ∗ hold pM c fullShare.right.right (PV m c) j) :=
  (hold_share pM c (PosShare.mem_left_op_right fullShare) (PV m c) j).trans
    (sep_congr .rfl (hold_share pM c (PosShare.mem_left_op_right fullShare.right) (PV m c) j))

/-- A received block lent to its copy across. -/
theorem lend_str (c : Dev nD) (k : Fin 13) (hq : qp k = fullShare.right.left) :
    iprop(wOut m c k ∗ sRest c k) ⊢ (iprop(kept m c k ∗ sIn m c k) : sProp 𝕄) := by
  unfold wOut sRest kept sIn
  by_cases h : on c k = true
  · rw [cnd_true h, cnd_true h, cnd_true h, cnd_true h, hq]
    iintro ⟨⟨Hf, Hh⟩, Ha, Ht⟩
    ihave H := (three m c (sl c k)).1 $$ Hh
    icases H with ⟨H1, H2, H3⟩
    iframe
  · have h' : on c k = false := by simpa using h
    rw [cnd_false h', cnd_false h', cnd_false h', cnd_false h']

/-- A received block lent to the copy that hands it on. -/
theorem lend_fwd (c : Dev nD) (k k' : Fin 13) (hq : qp k' = fullShare.right.right) (hi : on c k' = true → on c k = true ∧ sl c k' = sl c k) :
    iprop(kept m c k ∗ sRest c k') ⊢ (iprop(kept' m c k k' ∗ sIn m c k') : sProp 𝕄) := by
  unfold kept sRest kept' sIn
  by_cases h : on c k' = true
  · obtain ⟨h1, h2⟩ := hi h
    rw [cnd_true h, cnd_true h, cnd_true h1, cnd_true h1, cnd_false (b := !on c k') (by rw [h]; rfl), hq, h2]
    iintro ⟨⟨Hf, Hh, Hr⟩, Ha, Ht⟩
    iframe
  · have h' : on c k' = false := by simpa using h
    rw [cnd_false h', cnd_false h', cnd_true (b := !on c k') (by rw [h']; rfl)]

theorem fwd_7 : ∀ c : Dev nD, on c 8 = true → on c 7 = true ∧ sl c 8 = sl c 7 := by decide +kernel
theorem fwd_9 : ∀ c : Dev nD, on c 10 = true → on c 9 = true ∧ sl c 10 = sl c 9 := by decide +kernel

theorem lv_5 (c : Dev nD) : ∀ i, 16 ≤ i → i < 24 → pon c i = true → rlev c (sl c 5).val < lv (pcell c i) () := by
  have e : ∀ (c : Dev nD) (k : Fin 13), 16 ≤ 11 + k.val → on c k = true → rlev c (sl c 5).val < rlev (tg c k) (sl c k).val := by decide +kernel
  exact lv_late c (by decide) (e c)
theorem lv_6 (c : Dev nD) : ∀ i, 17 ≤ i → i < 24 → pon c i = true → rlev c (sl c 6).val < lv (pcell c i) () := by
  have e : ∀ (c : Dev nD) (k : Fin 13), 17 ≤ 11 + k.val → on c k = true → rlev c (sl c 6).val < rlev (tg c k) (sl c k).val := by decide +kernel
  exact lv_late c (by decide) (e c)
theorem lv_7 (c : Dev nD) : ∀ i, 18 ≤ i → i < 24 → pon c i = true → rlev c (sl c 7).val < lv (pcell c i) () := by
  have e : ∀ (c : Dev nD) (k : Fin 13), 18 ≤ 11 + k.val → on c k = true → rlev c (sl c 7).val < rlev (tg c k) (sl c k).val := by decide +kernel
  exact lv_late c (by decide) (e c)
theorem lv_9 (c : Dev nD) : ∀ i, 20 ≤ i → i < 24 → pon c i = true → rlev c (sl c 9).val < lv (pcell c i) () := by
  have e : ∀ (c : Dev nD) (k : Fin 13), 20 ≤ 11 + k.val → on c k = true → rlev c (sl c 9).val < rlev (tg c k) (sl c k).val := by decide +kernel
  exact lv_late c (by decide) (e c)
theorem lv_11 (c : Dev nD) : ∀ i, 22 ≤ i → i < 24 → pon c i = true → rlev c (sl c 11).val < lv (pcell c i) () := by
  have e : ∀ (c : Dev nD) (k : Fin 13), 22 ≤ 11 + k.val → on c k = true → rlev c (sl c 11).val < rlev (tg c k) (sl c k).val := by decide +kernel
  exact lv_late c (by decide) (e c)
theorem lv_12 (c : Dev nD) : ∀ i, 23 ≤ i → i < 24 → pon c i = true → rlev c (sl c 12).val < lv (pcell c i) () := by
  have e : ∀ (c : Dev nD) (k : Fin 13), 23 ≤ 11 + k.val → on c k = true → rlev c (sl c 12).val < rlev (tg c k) (sl c k).val := by decide +kernel
  exact lv_late c (by decide) (e c)

/-- What the receive of a block reduced across takes, and what it leaves. -/
def xIn (c : Dev nD) (i : Fin 4) : sProp 𝕄 := iprop(pos c (rs (ox c i)) ∗ crd c (rs (ox c i)))
def xOut (c : Dev nD) (i : Fin 4) : sProp 𝕄 := iprop(fin c (rs (ox c i)) ∗ hold pM c fullShare (PV m c) (ox c i))
theorem has_ox : ∀ (c : Dev nD) (i : Fin 4), has c (rs (ox c i)) = true := by decide +kernel
theorem on_0 : ∀ c : Dev nD, on c 0 = true := by decide +kernel
theorem sl_own : ∀ (c : Dev nD) (k : Fin 13), k.val ≤ 4 → sl c k = qc c := by decide +kernel

section Parts
variable (c : Dev nD)
local notation "WP" => wp frame (wpE (defs₀ (F := F)) 𝒱₀ (c : Thread nD τ) none) Set.univ

/-- Waiting for a block reduced across. -/
theorem recv_ox (i : Fin 4) {α : Type} {Q : α → sProp (MT nD τ sig Unit (Elt F) ℕ UU ℕ)} {K : Prog (TpuEff nD τ sig (Elt F) Λ₀ .tc) α}
    {sm : DmaSem sig} (hsm : sm = own (rs (ox c i))) {sr ds : Memref sig .tc .vmem S1024x128 .bf16} (hds : ds = slot pM (ox c i))
    {h1 : sr.view.WordExact} {h2 : ds.view.WordExact} :
    iprop(ctx m κ ∗ xIn c i ∗ Owes c 24) ⊢ iprop(((xOut m c i ∗ Owes c 24) -∗ WP K Q) -∗ WP (.op (.waitDma2 sm sr ds h1 h2) fun _ => K) Q) := by
  subst hds
  unfold xIn xOut crd
  iintro ⟨#Hc, ⟨Hp, Hcr⟩, Ho⟩ HK
  iapply (step_wait m κ c (rs (ox c i)) NP 24 (lv (dcell c (rs (ox c i))) ()) (has_ox c i) (expect_d m c _ (rs_ge _) (has_ox c i)) le_rfl (lv_end c)
    hsm (credit_p _)) $$ [Hp Hcr Ho]
  · iframe # Hp Hcr Ho
  rw [dPay_rs]
  iintro ⟨Hf, Ho, Hh⟩
  iapply HK
  iframe

theorem part10 (v2 v5 v8 v11 : BitVec 32) (v272 : FVec F S1024x128 .bf16) (hv : v272 = yV m c) {R : sProp 𝕄} {Φ : _ → sProp (MT nD τ sig Unit (Elt F) ℕ UU ℕ)} :
    iprop(ctx m κ ∗ any pM c (qc c) ∗ (hold pM c fullShare (PV m c) (qc c) -∗ sIn m c 0 ∗ sIn m c 1 ∗ R) ∗ Owes c 11)
      ⊢ iprop((∀ r, (sOut c 0 ∗ sOut c 1 ∗ R ∗ Owes c 13) -∗ Φ r) -∗ WP (app (k0_part10_skel (F := F)) c v2 v5 v8 v11 v272) Φ) := by
  unfold app k0_part10_skel
  simp -zetaHave -proj only [Prog.lift, Prog.bind_op, Prog.bind_ret, Prog.pure_eq_ret, guarded_of]
  extract_lets
  rename_i j1
  clear_value (e1 : j1 = _)
  iintro ⟨#Hc, Hq, Hw, Ho⟩ HΦ
  iapply (step_peek c pM (qc c) (off2_eq c)) $$ Hq
  iintro Hq
  iapply (step_write c pM (qc c) (PV m c) (off2_eq c) (by
    rw [read_PV, dv_qc_zc, hv]; exact cast_up _)) $$ Hq
  iintro Hq
  ihave H := Hw $$ Hq
  icases H with ⟨H0, H1, HR⟩
  iapply (step_fwd m κ c 0 (on_0 c) (dev12_eq c) (slot_at _ (off4_eq c (on_0 c)) _) (slot_at _ (off4_eq c (on_0 c)) _) rfl (sem_r _ (off3_eq c (on_0 c)) _)) $$ [H0 Ho]
  · iframe # H0 Ho
  iintro ⟨H0, Ho⟩
  iapply (send_if m κ c 1 12 13 rfl rfl (cond1_iff c) (dev13_eq c) (fun _ hk => slot_at _ (off6_eq c hk) _) (fun _ hk => slot_at _ (off6_eq c hk) _)
    (fun _ => rfl) (fun _ hk => sem_r _ (off5_eq c hk) _)) $$ [H1 Ho]
  · iframe # H1 Ho
  iintro ⟨H1, Ho⟩
  rw [e1]
  iapply (ret_of c _)
  iapply HΦ
  iframe

theorem part11 (v2 v5 v8 v307 : BitVec 32) (v306 : BitVec 1) {Φ : _ → sProp (MT nD τ sig Unit (Elt F) ℕ UU ℕ)} :
    iprop(ctx m κ ∗ sIn m c 2 ∗ sIn m c 3 ∗ sIn m c 4 ∗ Owes c 13)
      ⊢ iprop((∀ r, (sOut c 2 ∗ sOut c 3 ∗ sOut c 4 ∗ Owes c 16) -∗ Φ r) -∗ WP (app (k0_part11_skel (F := F)) c v2 v5 v8 v306 v307) Φ) := by
  unfold app k0_part11_skel
  simp -zetaHave -proj only [Prog.lift, Prog.bind_op, Prog.bind_ret, Prog.pure_eq_ret, guarded_of]
  extract_lets
  rename_i j3 j2 j1
  clear_value (e1 : j1 = _) (e2 : j2 = _) (e3 : j3 = _)
  iintro ⟨#Hc, H2, H3, H4, Ho⟩ HΦ
  iapply (send_if m κ c 2 13 14 rfl rfl (cond2_iff c) (dev14_eq c) (fun _ hk => slot_at _ (off8_eq c hk) _) (fun _ hk => slot_at _ (off8_eq c hk) _)
    (fun _ => rfl) (fun _ hk => sem_r _ (off7_eq c hk) _)) $$ [H2 Ho]
  · iframe # H2 Ho
  iintro ⟨H2, Ho⟩
  rw [e1]
  iapply (send_if m κ c 3 14 15 rfl rfl (cond3_iff c) (dev15_eq c) (fun _ hk => slot_at _ (off10_eq c hk) _) (fun _ hk => slot_at _ (off10_eq c hk) _)
    (fun _ => rfl) (fun _ hk => sem_r _ (off9_eq c hk) _)) $$ [H3 Ho]
  · iframe # H3 Ho
  iintro ⟨H3, Ho⟩
  rw [e2]
  iapply (send_if m κ c 4 15 16 rfl rfl (cond4_iff c) (dev16_eq c) (fun _ hk => slot_at _ (off12_eq c hk) _) (fun _ hk => slot_at _ (off12_eq c hk) _)
    (fun _ => rfl) (fun _ hk => sem_r _ (off11_eq c hk) _)) $$ [H4 Ho]
  · iframe # H4 Ho
  iintro ⟨H4, Ho⟩
  rw [e3]
  iapply (ret_of c _)
  iapply HΦ
  iframe

theorem part12 (v2 : BitVec 32) (v5 : BitVec 32) (v8 : BitVec 32) (v11 : BitVec 32) (v335 : BitVec 1) (v336 : BitVec 32) (v337 : BitVec 1) (v338 : BitVec 32) {Φ : _ → sProp (MT nD τ sig Unit (Elt F) ℕ UU ℕ)} :
    iprop(ctx m κ ∗ wIn c 5 ∗ sRest c 5 ∗ wIn c 6 ∗ sRest c 6 ∗ wIn c 7 ∗ Owes c 16)
      ⊢ iprop((∀ r, (kept m c 5 ∗ sOut c 5 ∗ kept m c 6 ∗ sOut c 6 ∗ wOut m c 7 ∗ Owes c 18) -∗ Φ r) -∗ WP (app (k0_part12_skel (F := F)) c v2 v5 v8 v11 v335 v336 v337 v338) Φ) := by
  unfold app k0_part12_skel
  simp -zetaHave -proj only [Prog.lift, Prog.bind_op, Prog.bind_ret, Prog.pure_eq_ret, guarded_of]
  extract_lets
  rename_i j5 j4 j3 j2 j1
  clear_value (e1 : j1 = _) (e2 : j2 = _) (e3 : j3 = _) (e4 : j4 = _) (e5 : j5 = _)
  iintro ⟨#Hc, W5, R5, W6, R6, W7, Ho⟩ HΦ
  iapply (recv_if m κ c 5 16 (cond5_iff c) (fun hk => has_str c 5 (by decide) hk) (fun _ => lv_5 c) (fun _ hk => sem_r _ (off13_eq c hk) _)
    (fun _ hk => slot_at _ (off14_eq c hk) _)) $$ [W5 Ho]
  · iframe # W5 Ho
  iintro ⟨W5, Ho⟩
  ihave H := (lend_str m c 5 rfl) $$ [W5 R5]
  · iframe W5 R5
  icases H with ⟨W5, H5⟩
  rw [e1]
  iapply (send_if m κ c 5 16 17 rfl rfl (cond6_iff c) (dev17_eq c) (fun _ hk => slot_at _ (off16_eq c hk) _) (fun _ hk => slot_at _ (off16_eq c hk) _)
    (fun _ => rfl) (fun _ hk => sem_r _ (off15_eq c hk) _)) $$ [H5 Ho]
  · iframe # H5 Ho
  iintro ⟨H5, Ho⟩
  rw [e2]
  iapply (recv_if m κ c 6 17 (cond7_iff c) (fun hk => has_str c 6 (by decide) hk) (fun _ => lv_6 c) (fun _ hk => sem_r _ (off17_eq c hk) _)
    (fun _ hk => slot_at _ (off18_eq c hk) _)) $$ [W6 Ho]
  · iframe # W6 Ho
  iintro ⟨W6, Ho⟩
  ihave H := (lend_str m c 6 rfl) $$ [W6 R6]
  · iframe W6 R6
  icases H with ⟨W6, H6⟩
  rw [e3]
  iapply (send_if m κ c 6 17 18 rfl rfl (cond8_iff c) (dev18_eq c) (fun _ hk => slot_at _ (off20_eq c hk) _) (fun _ hk => slot_at _ (off20_eq c hk) _)
    (fun _ => rfl) (fun _ hk => sem_r _ (off19_eq c hk) _)) $$ [H6 Ho]
  · iframe # H6 Ho
  iintro ⟨H6, Ho⟩
  rw [e4]
  iapply (recv_if m κ c 7 18 (cond9_iff c) (fun hk => has_str c 7 (by decide) hk) (fun _ => lv_7 c) (fun _ hk => sem_r _ (off21_eq c hk) _)
    (fun _ hk => slot_at _ (off22_eq c hk) _)) $$ [W7 Ho]
  · iframe # W7 Ho
  iintro ⟨W7, Ho⟩
  rw [e5]
  iapply (ret_of c _)
  iapply HΦ
  iframe

theorem part13 (v2 : BitVec 32) (v5 : BitVec 32) (v8 : BitVec 32) (v11 : BitVec 32) (v339 : BitVec 1) (v341 : BitVec 1) (v342 : BitVec 32) (v343 : BitVec 1) (v344 : BitVec 32) (v346 : BitVec 32) (v369 : BitVec 32) {Φ : _ → sProp (MT nD τ sig Unit (Elt F) ℕ UU ℕ)} :
    iprop(ctx m κ ∗ wOut m c 7 ∗ sRest c 7 ∗ sRest c 8 ∗ wIn c 9 ∗ sRest c 9 ∗ sRest c 10 ∗ wIn c 11 ∗ sRest c 11 ∗ Owes c 18)
      ⊢ iprop((∀ r, (kept' m c 7 8 ∗ sOut c 7 ∗ sOut c 8 ∗ kept' m c 9 10 ∗ sOut c 9 ∗ sOut c 10 ∗ kept m c 11 ∗ sOut c 11 ∗ Owes c 23) -∗ Φ r)
        -∗ WP (app (k0_part13_skel (F := F)) c v2 v5 v8 v11 v339 v341 v342 v343 v344 v346 v369) Φ) := by
  unfold app k0_part13_skel
  simp -zetaHave -proj only [Prog.lift, Prog.bind_op, Prog.bind_ret, Prog.pure_eq_ret, guarded_of]
  extract_lets
  rename_i j7 j6 j5 j4 j3 j2 j1
  clear_value (e1 : j1 = _) (e2 : j2 = _) (e3 : j3 = _) (e4 : j4 = _) (e5 : j5 = _) (e6 : j6 = _) (e7 : j7 = _)
  iintro ⟨#Hc, W7, R7, R8, W9, R9, R10, W11, R11, Ho⟩ HΦ
  ihave H := (lend_str m c 7 rfl) $$ [W7 R7]
  · iframe W7 R7
  icases H with ⟨W7, H7⟩
  iapply (send_if m κ c 7 18 19 rfl rfl (cond10_iff c) (dev19_eq c) (fun _ hk => slot_at _ (off24_eq c hk) _) (fun _ hk => slot_at _ (off24_eq c hk) _)
    (fun _ => rfl) (fun _ hk => sem_r _ (off23_eq c hk) _)) $$ [H7 Ho]
  · iframe # H7 Ho
  iintro ⟨H7, Ho⟩
  rw [e1]
  ihave H := (lend_fwd m c 7 8 rfl (fwd_7 c)) $$ [W7 R8]
  · iframe W7 R8
  icases H with ⟨W7, H8⟩
  iapply (send_if m κ c 8 19 20 rfl rfl (cond11_iff c) (dev20_eq c) (fun _ hk => slot_at _ (off26_eq c hk) _) (fun _ hk => slot_at _ (off26_eq c hk) _)
    (fun _ => rfl) (fun _ hk => sem_r _ (off25_eq c hk) _)) $$ [H8 Ho]
  · iframe # H8 Ho
  iintro ⟨H8, Ho⟩
  rw [e2]
  iapply (recv_if m κ c 9 20 (cond12_iff c) (fun hk => has_str c 9 (by decide) hk) (fun _ => lv_9 c) (fun _ hk => sem_r _ (off27_eq c hk) _)
    (fun _ hk => slot_at _ (off28_eq c hk) _)) $$ [W9 Ho]
  · iframe # W9 Ho
  iintro ⟨W9, Ho⟩
  ihave H := (lend_str m c 9 rfl) $$ [W9 R9]
  · iframe W9 R9
  icases H with ⟨W9, H9⟩
  rw [e3]
  iapply (send_if m κ c 9 20 21 rfl rfl (cond13_iff c) (dev21_eq c) (fun _ hk => slot_at _ (off30_eq c hk) _) (fun _ hk => slot_at _ (off30_eq c hk) _)
    (fun _ => rfl) (fun _ hk => sem_r _ (off29_eq c hk) _)) $$ [H9 Ho]
  · iframe # H9 Ho
  iintro ⟨H9, Ho⟩
  rw [e4]
  ihave H := (lend_fwd m c 9 10 rfl (fwd_9 c)) $$ [W9 R10]
  · iframe W9 R10
  icases H with ⟨W9, H10⟩
  iapply (send_if m κ c 10 21 22 rfl rfl (cond14_iff c) (dev22_eq c) (fun _ hk => slot_at _ (off32_eq c hk) _) (fun _ hk => slot_at _ (off32_eq c hk) _)
    (fun _ => rfl) (fun _ hk => sem_r _ (off31_eq c hk) _)) $$ [H10 Ho]
  · iframe # H10 Ho
  iintro ⟨H10, Ho⟩
  rw [e5]
  iapply (recv_if m κ c 11 22 (cond15_iff c) (fun hk => has_str c 11 (by decide) hk) (fun _ => lv_11 c) (fun _ hk => sem_r _ (off33_eq c hk) _)
    (fun _ hk => slot_at _ (off34_eq c hk) _)) $$ [W11 Ho]
  · iframe # W11 Ho
  iintro ⟨W11, Ho⟩
  ihave H := (lend_str m c 11 rfl) $$ [W11 R11]
  · iframe W11 R11
  icases H with ⟨W11, H11⟩
  rw [e6]
  iapply (send_if m κ c 11 22 23 rfl rfl (cond16_iff c) (dev23_eq c) (fun _ hk => slot_at _ (off36_eq c hk) _) (fun _ hk => slot_at _ (off36_eq c hk) _)
    (fun _ => rfl) (fun _ hk => sem_r _ (off35_eq c hk) _)) $$ [H11 Ho]
  · iframe # H11 Ho
  iintro ⟨H11, Ho⟩
  rw [e7]
  iapply (ret_of c _)
  iapply HΦ
  iframe

theorem part14 (v2 : BitVec 32) (v5 : BitVec 32) (v8 : BitVec 32) (v11 : BitVec 32) (v345 : BitVec 1) (v396 : BitVec 32) (v397 : BitVec 32) {Φ : _ → sProp (MT nD τ sig Unit (Elt F) ℕ UU ℕ)} :
    iprop(ctx m κ ∗ wIn c 12 ∗ sRest c 12 ∗ xIn c 0 ∗ Owes c 23)
      ⊢ iprop((∀ r, (kept m c 12 ∗ sOut c 12 ∗ xOut m c 0 ∗ Owes c 24) -∗ Φ r) -∗ WP (app (k0_part14_skel (F := F)) c v2 v5 v8 v11 v345 v396 v397) Φ) := by
  unfold app k0_part14_skel
  simp -zetaHave -proj only [Prog.lift, Prog.bind_op, Prog.bind_ret, Prog.pure_eq_ret, guarded_of]
  extract_lets
  rename_i j2 j1
  clear_value (e1 : j1 = _) (e2 : j2 = _)
  iintro ⟨#Hc, W12, R12, X0, Ho⟩ HΦ
  iapply (recv_if m κ c 12 23 (cond17_iff c) (fun hk => has_str c 12 (by decide) hk) (fun _ => lv_12 c) (fun _ hk => sem_r _ (off37_eq c hk) _)
    (fun _ hk => slot_at _ (off38_eq c hk) _)) $$ [W12 Ho]
  · iframe # W12 Ho
  iintro ⟨W12, Ho⟩
  ihave H := (lend_str m c 12 rfl) $$ [W12 R12]
  · iframe W12 R12
  icases H with ⟨W12, H12⟩
  rw [e1]
  iapply (send_if m κ c 12 23 24 rfl rfl (cond18_iff c) (dev24_eq c) (fun _ hk => slot_at _ (off40_eq c hk) _) (fun _ hk => slot_at _ (off40_eq c hk) _)
    (fun _ => rfl) (fun _ hk => sem_r _ (off39_eq c hk) _)) $$ [H12 Ho]
  · iframe # H12 Ho
  iintro ⟨H12, Ho⟩
  rw [e2]
  iapply (recv_ox m κ c 0 (sem_r _ (off41_eq c 0) _) (slot_at _ (off42_eq c 0) _)) $$ [X0 Ho]
  · iframe # X0 Ho
  iintro ⟨X0, Ho⟩
  iapply (ret_of c _)
  iapply HΦ
  iframe

end Parts
end Cert.Proof
end
-- ==== Proof.Norm.lean ====
module

public import proofs.«01_k».proof.Proof.Moves

@[expose] public section

/-!
# The normalisation, part by part

The parts of the body that read the eight reduced blocks and write the normalised rows.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

/-- Block `j` of device `c`'s rows, as it is read. -/
def yB (c : Dev nD) (j : Fin 8) : Vec F S1x1024x128 .bf16 := up (yV m (dv j (zc c)))
/-- The rows' factors. -/
def rV (c : Dev nD) : FVec F S1024x1 .f32 :=
  k0_pay9 (k0_pay7 k0_pay6 (yB m c 0) (yB m c 1) (yB m c 2) (yB m c 3) (yB m c 4)) (k0_pay8 (yB m c 5)) (yB m c 6) (yB m c 7)

theorem inbG (j : Fin 8) : ∀ a, (![0, 128 * j.val] : Fin 2 → ℕ) a + S1x128.size a ≤ S1x1024.size a := by
  intro a; have := j.isLt
  fin_cases a
  · show 0 + 1 ≤ 1; omega
  · show 128 * j.val + 128 ≤ 1024; omega
theorem inbO (j : Fin 8) : ∀ a, (![0, 128 * j.val] : Fin 2 → ℕ) a + S1024x128.size a ≤ S1024x1024.size a := by
  intro a; have := j.isLt
  fin_cases a
  · show 0 + 1024 ≤ 1024; omega
  · show 128 * j.val + 128 ≤ 1024; omega
/-- The `j`-th block of the scale, and of the output. -/
abbrev rG (j : Fin 8) : Rect S1x1024 := Rect.unit (s := S1x1024) ![0, 128 * j.val] S1x128.size (inbG j)
abbrev rO (j : Fin 8) : Rect S1024x1024 := Rect.unit (s := S1024x1024) ![0, 128 * j.val] S1024x128.size (inbO j)

/-- The `j`-th block of the output. -/
def bV (c : Dev nD) (g : Buf (Elt F) (gM.view.loc (c : Thread nD τ))) (j : Fin 8) : FVec F S1024x128 .f32 :=
  k0_pay13 (rV m c) (yB m c j) (gM.view.readAt (Elt F) (rG j).toLoadRect g)
/-- An output position's block, and its place there. -/
def oj (i : S1024x1024.Idx) : Fin 8 := ⟨(i 1).val / 128, by have : (i 1).val < 1024 := (i 1).isLt; omega⟩
def ox2 (i : S1024x1024.Idx) : S1024x128.Idx :=
  Fin.cons (α := fun a => Fin (S1024x128.size a)) (i 0) (Fin.cons (α := fun a : Fin 1 => Fin (S1024x128.size a.succ))
    (⟨(i 1).val % 128, Nat.mod_lt _ (by decide)⟩ : Fin 128) fun a => a.elim0)
/-- The output of device `c`. -/
def outV (c : Dev nD) (g : Buf (Elt F) (gM.view.loc (c : Thread nD τ))) : Buf (Elt F) (oM.view.loc (c : Thread nD τ)) :=
  fun i : S1024x1024.Idx => bV m c g (oj i) (ox2 i)

/-- Device `c`'s eight blocks, at the share kept to read them. -/
def Y (c : Dev nD) : sProp 𝕄 := iprop(pM.view.loc (c : Thread nD τ) ↦[pM.view.set]{keep} PV m c)
/-- The scale's window. -/
def G (c : Dev nD) (g : Buf (Elt F) (gM.view.loc (c : Thread nD τ))) : sProp 𝕄 := iprop(gM.view.loc (c : Thread nD τ) ↦{fullShare} g)
/-- The output's window with its first `n` blocks written. -/
def O (c : Dev nD) (g : Buf (Elt F) (gM.view.loc (c : Thread nD τ))) (n : ℕ) : sProp 𝕄 :=
  iprop(∃ f : Buf (Elt F) (oM.view.loc (c : Thread nD τ)), ⌜∀ i : S1024x1024.Idx, (i 1).val < 128 * n → f i = outV m c g i⌝
    ∗ (oM.view.loc (c : Thread nD τ) ↦{fullShare} f))

/-- Writing the `j`-th block. -/
theorem write_out (c : Dev nD) (g : Buf (Elt F) (gM.view.loc (c : Thread nD τ))) (j : Fin 8) (f : Buf (Elt F) (oM.view.loc (c : Thread nD τ)))
    (h : ∀ i : S1024x1024.Idx, (i 1).val < 128 * j.val → f i = outV m c g i) :
    ∀ i : S1024x1024.Idx, (i 1).val < 128 * (j.val + 1) → (oM.access (rO j)).write (Elt F) f (bV m c g j) Finset.univ i = outV m c g i := by
  intro i hi
  by_cases hb : (i 1).val < 128 * j.val
  · rw [View.write_of_not_mem _ _ _ ?_]
    · exact h i hb
    · intro hm
      obtain ⟨x, -, hx⟩ := Finset.mem_map.mp hm
      have : (i 1).val = 128 * j.val + 1 * (x 1).val := congrArg (fun y : S1024x1024.Idx => (y 1).val) hx.symm
      omega
  · have hj : oj i = j := Fin.ext (show (i 1).val / 128 = j.val by omega)
    have hx : (oM.access (rO j)).emb (ox2 i) = i := by
      funext a
      refine Fin.ext ?_
      fin_cases a
      · show 0 + 1 * (i 0).val = (i 0).val; omega
      · show 128 * j.val + 1 * ((i 1).val % 128) = (i 1).val; omega
    have e := View.write_emb_of_mem (v := oM.access (rO j)) (Val := Elt F) f (bV m c g j) (Finset.mem_univ (ox2 i))
    rw [hx] at e
    refine e.trans ?_
    show bV m c g j (ox2 i) = bV m c g (oj i) (ox2 i)
    rw [hj]

section Parts
variable (c : Dev nD) (g : Buf (Elt F) (gM.view.loc (c : Thread nD τ)))
local notation "WP" => wp frame (wpE (defs₀ (F := F)) 𝒱₀ (c : Thread nD τ) none) Set.univ

section Steps
variable {α : Type} {Q : α → sProp (MT nD τ sig Unit (Elt F) ℕ UU ℕ)}

theorem step_readY (j : Fin 8) {o : Fin 3 → ℕ} (ho : o = ![j.val, 0, 0]) {hi : ∀ a, o a + S1x1024x128.size a ≤ (SB 8).size a}
    {hl : pM.view.LoadsAt (Rect.unit (s := SB 8) o S1x1024x128.size hi).toLoadRect}
    {K : Vec F S1x1024x128 .bf16 → Prog (TpuEff nD τ sig (Elt F) Λ₀ .tc) α} :
    (Y m c : sProp 𝕄) ⊢ iprop((Y m c -∗ WP (K (yB m c j)) Q) -∗ WP (.op (.load pM (Rect.unit (s := SB 8) o S1x1024x128.size hi).toLoadRect hl) K) Q) := by
  subst ho
  unfold Y yB
  rw [← read_PV, ← readAt_slot]
  exact wp_load 𝒱₀ (c : Thread nD τ) none Set.univ (m := pM) (View.setOn_subset_set _ _)

theorem step_readG (j : Fin 8) {o : Fin 2 → ℕ} (ho : o = ![0, 128 * j.val]) {hi : ∀ a, o a + S1x128.size a ≤ S1x1024.size a}
    {hl : gM.view.LoadsAt (Rect.unit (s := S1x1024) o S1x128.size hi).toLoadRect}
    {K : Vec F S1x128 .f32 → Prog (TpuEff nD τ sig (Elt F) Λ₀ .tc) α} :
    (G c g : sProp 𝕄) ⊢ iprop((G c g -∗ WP (K (gM.view.readAt (Elt F) (rG j).toLoadRect g)) Q)
      -∗ WP (.op (.load gM (Rect.unit (s := S1x1024) o S1x128.size hi).toLoadRect hl) K) Q) := by
  subst ho
  unfold G
  exact wp_load 𝒱₀ (c : Thread nD τ) none Set.univ (m := gM) (Finset.subset_univ _)

theorem step_peekO (n : ℕ) {r : Rect S1024x1024} {hl : oM.view.LoadsAt r.toLoadRect}
    {K : Prog (TpuEff nD τ sig (Elt F) Λ₀ .tc) α} :
    (O m c g n : sProp 𝕄) ⊢ iprop((O m c g n -∗ WP K Q) -∗ WP (.op (.load oM r.toLoadRect hl) fun _ => K) Q) := by
  unfold O
  iintro ⟨%f, %hf, H⟩ HK
  iapply (wp_load 𝒱₀ (c : Thread nD τ) none Set.univ (m := oM) (r := r.toLoadRect) (k := fun _ => K) (Finset.subset_univ _)) $$ H
  iintro H
  iapply HK
  iexists f
  isplitr
  · ipureintro; exact hf
  · iexact H

theorem step_out (n n' : ℕ) (j : Fin 8) (hn : n = j.val) (hn' : n' = j.val + 1) {o : Fin 2 → ℕ} (ho : o = ![0, 128 * j.val])
    {hi : ∀ a, o a + S1024x128.size a ≤ S1024x1024.size a} {w : Vec F S1024x128 .f32} (hw : w = bV m c g j)
    {hx : (oM.access (Rect.unit (s := S1024x1024) o S1024x128.size hi)).Stores Finset.univ}
    {hm : (Finset.univ : Finset (Rect.unit (s := S1024x1024) o S1024x128.size hi).shape.Idx) = Finset.univ ∨ ∀ a, (Rect.unit (s := S1024x1024) o S1024x128.size hi).stride a = 1}
    {K : Prog (TpuEff nD τ sig (Elt F) Λ₀ .tc) α} :
    (O m c g n : sProp 𝕄) ⊢ iprop((O m c g n' -∗ WP K Q)
      -∗ WP (.op (.store oM (Rect.unit (s := S1024x1024) o S1024x128.size hi) w Finset.univ hx hm) fun _ => K) Q) := by
  subst ho hw hn hn'
  unfold O
  iintro ⟨%f, %hf, H⟩ HK
  iapply (wp_store 𝒱₀ (c : Thread nD τ) none Set.univ (m := oM) (r := rO j) (Mk := Finset.univ) (f := f) (hx := hx) (hm := hm)
    (k := fun _ => K) (w := bV m c g j) (Finset.subset_univ _)) $$ H
  iintro H
  iapply HK
  iexists ((oM.access (rO j)).write (Elt F) f (bV m c g j) Finset.univ)
  isplitr
  · ipureintro; exact write_out m c g j f hf
  · iexact H
end Steps

theorem part15 (v2 : BitVec 32) (v5 : BitVec 32) (v8 : BitVec 32) (v11 : BitVec 32) {Φ : _ → sProp (MT nD τ sig Unit (Elt F) ℕ UU ℕ)} {R : sProp 𝕄} :
    iprop(ctx m κ ∗ xIn c 1 ∗ xIn c 2 ∗ xIn c 3 ∗ (xOut m c 1 ∗ xOut m c 2 ∗ xOut m c 3 -∗ Y m c ∗ R) ∗ Owes c 24)
      ⊢ iprop(((Y m c ∗ R ∗ Owes c 24) -∗ Φ ⟨k0_pay6, yB m c 0⟩) -∗ WP (app (k0_part15_skel (F := F)) c v2 v5 v8 v11) Φ) := by
  unfold app k0_part15_skel
  simp -zetaHave -proj only [Prog.lift, Prog.bind_op, Prog.bind_ret, Prog.pure_eq_ret]
  iintro ⟨#Hc, X1, X2, X3, HW, Ho⟩ HΦ
  iapply (recv_ox m κ c 1 (sem_r _ (off41_eq c 1) _) (slot_at _ (off42_eq c 1) _)) $$ [X1 Ho]
  · iframe # X1 Ho
  iintro ⟨X1, Ho⟩
  iapply (recv_ox m κ c 2 (sem_r _ (off41_eq c 2) _) (slot_at _ (off42_eq c 2) _)) $$ [X2 Ho]
  · iframe # X2 Ho
  iintro ⟨X2, Ho⟩
  iapply (recv_ox m κ c 3 (sem_r _ (off41_eq c 3) _) (slot_at _ (off42_eq c 3) _)) $$ [X3 Ho]
  · iframe # X3 Ho
  iintro ⟨X3, Ho⟩
  ihave H := HW $$ [X1 X2 X3]
  · iframe X1 X2 X3
  icases H with ⟨HY, HR⟩
  iapply (step_readY m c 0 rfl) $$ HY
  iintro HY
  iapply (ret_of c _)
  iapply HΦ
  iframe

theorem part16 {Φ : _ → sProp (MT nD τ sig Unit (Elt F) ℕ UU ℕ)} :
    (Y m c : sProp 𝕄) ⊢ iprop((Y m c -∗ Φ ⟨k0_pay7 k0_pay6 (yB m c 0) (yB m c 1) (yB m c 2) (yB m c 3) (yB m c 4), k0_pay8 (yB m c 5)⟩)
      -∗ WP (app (k0_part16_skel (F := F)) k0_pay6 (yB m c 0)) Φ) := by
  unfold app k0_part16_skel
  simp -zetaHave -proj only [Prog.lift, Prog.bind_op, Prog.bind_ret, Prog.pure_eq_ret]
  iintro HY HΦ
  iapply (step_readY m c 1 rfl) $$ HY
  iintro HY
  iapply (step_readY m c 2 rfl) $$ HY
  iintro HY
  iapply (step_readY m c 3 rfl) $$ HY
  iintro HY
  iapply (step_readY m c 4 rfl) $$ HY
  iintro HY
  iapply (step_readY m c 5 rfl) $$ HY
  iintro HY
  iapply (ret_of c _)
  iapply HΦ
  iframe

theorem part17 {Φ : _ → sProp (MT nD τ sig Unit (Elt F) ℕ UU ℕ)} :
    (iprop(Y m c ∗ G c g ∗ O m c g 0) : sProp 𝕄)
      ⊢ iprop(((Y m c ∗ G c g ∗ O m c g 1) -∗ Φ ⟨rV m c, k0_pay11 (k0_pay7 k0_pay6 (yB m c 0) (yB m c 1) (yB m c 2) (yB m c 3) (yB m c 4)) (k0_pay8 (yB m c 5)) (yB m c 6) (yB m c 7) (yB m c 1), gM.view.readAt (Elt F) (rG 1).toLoadRect g⟩)
      -∗ WP (app (k0_part17_skel (F := F)) (k0_pay7 k0_pay6 (yB m c 0) (yB m c 1) (yB m c 2) (yB m c 3) (yB m c 4)) (k0_pay8 (yB m c 5))) Φ) := by
  unfold rV app k0_part17_skel
  simp -zetaHave -proj only [Prog.lift, Prog.bind_op, Prog.bind_ret, Prog.pure_eq_ret]
  iintro ⟨HY, HG, HO⟩ HΦ
  iapply (step_readY m c 6 rfl) $$ HY
  iintro HY
  iapply (step_readY m c 7 rfl) $$ HY
  iintro HY
  iapply (step_readY m c 0 rfl) $$ HY
  iintro HY
  iapply (step_readG c g 0 rfl) $$ HG
  iintro HG
  iapply (step_peekO m c g 0) $$ HO
  iintro HO
  iapply (step_out m c g 0 1 0 rfl rfl rfl rfl) $$ HO
  iintro HO
  iapply (step_readY m c 1 rfl) $$ HY
  iintro HY
  iapply (step_readG c g 1 rfl) $$ HG
  iintro HG
  iapply (ret_of c _)
  iapply HΦ
  iframe

theorem part18 {Φ : _ → sProp (MT nD τ sig Unit (Elt F) ℕ UU ℕ)} :
    (iprop(Y m c ∗ G c g ∗ O m c g 1) : sProp 𝕄)
      ⊢ iprop(((Y m c ∗ G c g ∗ O m c g 4) -∗ Φ (k0_pay15 (rV m c) (yB m c 4) (gM.view.readAt (Elt F) (rG 4).toLoadRect g)))
      -∗ WP (app (k0_part18_skel (F := F)) (rV m c) (k0_pay11 (k0_pay7 k0_pay6 (yB m c 0) (yB m c 1) (yB m c 2) (yB m c 3) (yB m c 4)) (k0_pay8 (yB m c 5)) (yB m c 6) (yB m c 7) (yB m c 1)) (gM.view.readAt (Elt F) (rG 1).toLoadRect g)) Φ) := by
  unfold app k0_part18_skel
  simp -zetaHave -proj only [Prog.lift, Prog.bind_op, Prog.bind_ret, Prog.pure_eq_ret]
  iintro ⟨HY, HG, HO⟩ HΦ
  iapply (step_peekO m c g 1) $$ HO
  iintro HO
  iapply (step_out m c g 1 2 1 rfl rfl rfl rfl) $$ HO
  iintro HO
  iapply (step_readY m c 2 rfl) $$ HY
  iintro HY
  iapply (step_readG c g 2 rfl) $$ HG
  iintro HG
  iapply (step_peekO m c g 2) $$ HO
  iintro HO
  iapply (step_out m c g 2 3 2 rfl rfl rfl rfl) $$ HO
  iintro HO
  iapply (step_readY m c 3 rfl) $$ HY
  iintro HY
  iapply (step_readG c g 3 rfl) $$ HG
  iintro HG
  iapply (step_peekO m c g 3) $$ HO
  iintro HO
  iapply (step_out m c g 3 4 3 rfl rfl rfl rfl) $$ HO
  iintro HO
  iapply (step_readY m c 4 rfl) $$ HY
  iintro HY
  iapply (step_readG c g 4 rfl) $$ HG
  iintro HG
  iapply (step_peekO m c g 4) $$ HO
  iintro HO
  iapply (ret_of c _)
  iapply HΦ
  iframe

theorem part19 {Φ : _ → sProp (MT nD τ sig Unit (Elt F) ℕ UU ℕ)} :
    (iprop(Y m c ∗ G c g ∗ O m c g 4) : sProp 𝕄)
      ⊢ iprop((∀ r, (Y m c ∗ G c g ∗ O m c g 8) -∗ Φ r)
      -∗ WP (app (k0_part19_skel (F := F)) (rV m c) (k0_pay15 (rV m c) (yB m c 4) (gM.view.readAt (Elt F) (rG 4).toLoadRect g))) Φ) := by
  unfold app k0_part19_skel
  simp -zetaHave -proj only [Prog.lift, Prog.bind_op, Prog.bind_ret, Prog.pure_eq_ret]
  iintro ⟨HY, HG, HO⟩ HΦ
  iapply (step_out m c g 4 5 4 rfl rfl rfl rfl) $$ HO
  iintro HO
  iapply (step_readY m c 5 rfl) $$ HY
  iintro HY
  iapply (step_readG c g 5 rfl) $$ HG
  iintro HG
  iapply (step_peekO m c g 5) $$ HO
  iintro HO
  iapply (step_out m c g 5 6 5 rfl rfl rfl rfl) $$ HO
  iintro HO
  iapply (step_readY m c 6 rfl) $$ HY
  iintro HY
  iapply (step_readG c g 6 rfl) $$ HG
  iintro HG
  iapply (step_peekO m c g 6) $$ HO
  iintro HO
  iapply (step_out m c g 6 7 6 rfl rfl rfl rfl) $$ HO
  iintro HO
  iapply (step_readY m c 7 rfl) $$ HY
  iintro HY
  iapply (step_readG c g 7 rfl) $$ HG
  iintro HG
  iapply (step_peekO m c g 7) $$ HO
  iintro HO
  iapply (step_out m c g 7 8 7 rfl rfl rfl rfl) $$ HO
  iintro HO
  iapply (ret_of c _)
  iapply HΦ
  iframe

end Parts
end Cert.Proof
end
-- ==== Proof.Deal.lean ====
module

public import proofs.«01_k».proof.Proof.Norm
public import Idealize.ShloMosaic.Lib.Pipeline.BigSepL

@[expose] public section

/-!
# Dealing out the blocks of a device

Each device's eight blocks are its own, the ones that pass it along the middle axis, and the four of the other half.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

theorem emp_l (P : sProp 𝕄) : iprop(emp ∗ P) = P := equiv_iff.mp emp_sep
theorem emp_r (P : sProp 𝕄) : iprop(P ∗ emp) = P := equiv_iff.mp sep_emp

/-- The second phase's copies of what a device receives along the middle axis. -/
def str : List (Fin 13) := [5, 6, 7, 9, 11, 12]

theorem deal_list : ∀ c : Dev nD, (Finset.univ : Finset (Fin 8)) = (qc c :: ((str.filter (on c)).map (sl c) ++ [ox c 0, ox c 1, ox c 2, ox c 3])).toFinset
    ∧ (qc c :: ((str.filter (on c)).map (sl c) ++ [ox c 0, ox c 1, ox c 2, ox c 3])).Nodup := by decide +kernel

/-- Things for the copies that are made. -/
theorem filter_cnd {I : Type} (p : I → Bool) (Ψ : I → sProp 𝕄) (l : List I) :
    bigSepL (l.filter p) Ψ = bigSepL l fun k => cnd (p k) (Ψ k) := by
  induction l with
  | nil => rfl
  | cons a l ih =>
    rw [bigSepL_cons', ← ih]
    by_cases h : p a = true
    · rw [List.filter_cons_of_pos h, bigSepL_cons', cnd_true h]
    · have h' : p a = false := by simpa using h
      rw [List.filter_cons_of_neg h, cnd_false h', emp_l]

/-- A device's blocks: its own, those passing along the middle axis, those of the other half. -/
theorem deal (c : Dev nD) (Ψ : Fin 8 → sProp (MT nD τ sig Unit (Elt F) ℕ UU ℕ)) :
    bigSep Finset.univ Ψ = iprop(Ψ (qc c)
      ∗ (cnd (on c 5) (Ψ (sl c 5)) ∗ cnd (on c 6) (Ψ (sl c 6)) ∗ cnd (on c 7) (Ψ (sl c 7)) ∗ cnd (on c 9) (Ψ (sl c 9))
        ∗ cnd (on c 11) (Ψ (sl c 11)) ∗ cnd (on c 12) (Ψ (sl c 12)))
      ∗ Ψ (ox c 0) ∗ Ψ (ox c 1) ∗ Ψ (ox c 2) ∗ Ψ (ox c 3)) := by
  rw [bigSep_univ_eq_bigSepL _ (deal_list c).1 (deal_list c).2, bigSepL_cons', bigSepL_append, bigSepL_map, filter_cnd]
  rfl

/-- The copies duty `d` of a barrier gives leave for. -/
def pk (d : Fin 8) : List (Fin 13) :=
  match d with
  | 3 => [0, 5, 6, 7, 9, 11, 12] | 4 => [2] | 5 => [1, 8] | 6 => [3, 10] | 7 => [4] | _ => []
/-- The blocks device `c`'s `s`-th signal gives leave for. -/
def gk (c : Dev nD) (s : Fin 8) : List (Fin 8) := ((pk (bd c s)).filter (on (bt c s))).map (sl (bt c s))

theorem give_list : ∀ c : Dev nD, (Finset.univ : Finset (Fin 8)) = (qc c :: (gk c 3 ++ (gk c 4 ++ (gk c 5 ++ (gk c 6 ++ gk c 7))))).toFinset
    ∧ (qc c :: (gk c 3 ++ (gk c 4 ++ (gk c 5 ++ (gk c 6 ++ gk c 7))))).Nodup := by decide +kernel
theorem give_mine : ∀ (c : Dev nD) (s : Fin 8) (k : Fin 13), k ∈ pk (bd c s) → on (bt c s) k = true → tg (bt c s) k = c := by decide +kernel
theorem bd_ge : ∀ (c : Dev nD) (s : Fin 8), 3 ≤ s → 3 ≤ bd c s := by decide +kernel

theorem barPay_pk (p : Dev nD) (d : Fin 8) (hd : 3 ≤ d) : (barPay p d : sProp 𝕄) = bigSepL (pk d) (perm p) := by
  have h : d = 3 ∨ d = 4 ∨ d = 5 ∨ d = 6 ∨ d = 7 := by revert d; decide
  rcases h with rfl | rfl | rfl | rfl | rfl <;> rfl

/-- What a signal hands over, as the signaller's blocks. -/
theorem give (c : Dev nD) (s : Fin 8) (hs : 3 ≤ s) : (barPay (bt c s) (bd c s) : sProp 𝕄) = bigSepL (gk c s) (any pM c) := by
  rw [barPay_pk _ _ (bd_ge c s hs)]
  unfold gk
  rw [bigSepL_map, filter_cnd]
  have h : ∀ k ∈ pk (bd c s), (perm (bt c s) k : sProp 𝕄) = cnd (on (bt c s) k) (any pM c (sl (bt c s) k)) := by
    intro k hk
    unfold perm
    by_cases ho : on (bt c s) k = true
    · rw [cnd_true ho, cnd_true ho, give_mine c s k hk ho]
    · have ho' : on (bt c s) k = false := by simpa using ho
      rw [cnd_false ho', cnd_false ho']
  exact (bigSepL_mono fun k hk => Entails.of_eq (h k hk)).antisymm (bigSepL_mono fun k hk => Entails.of_eq (h k hk).symm)

/-- A device's blocks before anything is known of them: its own, and what its signals hand over. -/
theorem give_all (c : Dev nD) :
    (bigSep Finset.univ (any pM c) : sProp 𝕄) = iprop(any pM c (qc c) ∗ barPay (bt c 3) (bd c 3) ∗ barPay (bt c 4) (bd c 4)
      ∗ barPay (bt c 5) (bd c 5) ∗ barPay (bt c 6) (bd c 6) ∗ barPay (bt c 7) (bd c 7)) := by
  rw [bigSep_univ_eq_bigSepL _ (give_list c).1 (give_list c).2, bigSepL_cons', bigSepL_append, bigSepL_append, bigSepL_append, bigSepL_append,
    give c 3 (by decide), give c 4 (by decide), give c 5 (by decide), give c 6 (by decide), give c 7 (by decide)]

theorem give_z : ∀ (c : Dev nD) (s : Fin 3), bt c ⟨s.val, by omega⟩ = zp c s ∧ bd c ⟨s.val, by omega⟩ = ⟨s.val, by omega⟩ := by decide +kernel
/-- The first phase's receive slots, handed over by the first three signals. -/
theorem give_rM (c : Dev nD) :
    (bigSep Finset.univ (any rM c) : sProp 𝕄) ⊢ iprop(barPay (bt c 0) (bd c 0) ∗ barPay (bt c 1) (bd c 1) ∗ barPay (bt c 2) (bd c 2)) := by
  have e0 : (barPay (bt c 0) (bd c 0) : sProp 𝕄) = any rM c 0 := by
    rw [show bt c 0 = zp c 0 from (give_z c 0).1, show bd c 0 = 0 from (give_z c 0).2]
    show any rM (zp (zp c 0) 2) 0 = _
    rw [show zp (zp c 0) 2 = c from zp_rev c 0]
  have e1 : (barPay (bt c 1) (bd c 1) : sProp 𝕄) = any rM c 1 := by
    rw [show bt c 1 = zp c 1 from (give_z c 1).1, show bd c 1 = 1 from (give_z c 1).2]
    show any rM (zp (zp c 1) 1) 1 = _
    rw [show zp (zp c 1) 1 = c from zp_rev c 1]
  have e2 : (barPay (bt c 2) (bd c 2) : sProp 𝕄) = any rM c 2 := by
    rw [show bt c 2 = zp c 2 from (give_z c 2).1, show bd c 2 = 2 from (give_z c 2).2]
    show any rM (zp (zp c 2) 0) 2 = _
    rw [show zp (zp c 2) 0 = c from zp_rev c 2]
  rw [e0, e1, e2, bigSep_univ_eq_bigSepL [0, 1, 2] (by decide) (by decide)]
  exact .rfl

/-- All that the barrier hands a device. -/
theorem bar_out (c : Dev nD) :
    (bigSep Finset.univ (barPay c) : sProp 𝕄) ⊢ iprop(any rM (zp c 2) 0 ∗ any rM (zp c 1) 1 ∗ any rM (zp c 0) 2
      ∗ (perm c 0 ∗ perm c 5 ∗ perm c 6 ∗ perm c 7 ∗ perm c 9 ∗ perm c 11 ∗ perm c 12) ∗ perm c 2 ∗ (perm c 1 ∗ perm c 8) ∗ (perm c 3 ∗ perm c 10) ∗ perm c 4) := by
  rw [bigSep_univ_eq_bigSepL [0, 1, 2, 3, 4, 5, 6, 7] (by decide) (by decide)]
  exact .rfl

/-- The rights to make the second phase's `k`-th copy. -/
def tk (c : Dev nD) (k : Fin 13) : sProp 𝕄 := cnd (on c k) iprop(tok c (ss k) ∗ tok (tg c k) (rs (sl c k)))

theorem cnd_sep (b : Bool) (P Q : sProp 𝕄) : iprop(cnd b P ∗ cnd b Q) = cnd b iprop(P ∗ Q) := by
  cases b
  · rw [cnd_false rfl, cnd_false rfl, cnd_false rfl, emp_l]
  · rw [cnd_true rfl, cnd_true rfl, cnd_true rfl]
theorem rest_of (c : Dev nD) (k : Fin 13) : iprop(perm c k ∗ tk c k) ⊢ (sRest c k : sProp 𝕄) := by
  unfold perm tk sRest; rw [cnd_sep]

/-! ## The own block, lent to up to five copies -/

theorem own_split (c : Dev nD) :
    (hold pM c fullShare (PV m c) (qc c) : sProp 𝕄)
      ⊣⊢ iprop(hold pM c keep (PV m c) (qc c) ∗ hold pM c (qp 0) (PV m c) (qc c) ∗ hold pM c (qp 1) (PV m c) (qc c)
        ∗ hold pM c (qp 2) (PV m c) (qc c) ∗ hold pM c (qp 3) (PV m c) (qc c) ∗ hold pM c (qp 4) (PV m c) (qc c)) := by
  have h : ∀ q : PosShare TreeShare, (hold pM c q (PV m c) (qc c) : sProp 𝕄) ⊣⊢ iprop(hold pM c q.left (PV m c) (qc c) ∗ hold pM c q.right (PV m c) (qc c)) :=
    fun q => hold_share pM c (PosShare.mem_left_op_right q) (PV m c) (qc c)
  exact (h _).trans (sep_congr .rfl ((h _).trans (sep_congr .rfl ((h _).trans (sep_congr .rfl ((h _).trans (sep_congr .rfl (h _))))))))

/-- What stays of a share of the own block where the copy is not made. -/
def ownL (c : Dev nD) (k : Fin 13) : sProp 𝕄 := cnd (!on c k) (hold pM c (qp k) (PV m c) (qc c))
theorem own_in (c : Dev nD) (k : Fin 13) (hk : k.val ≤ 4) :
    iprop(hold pM c (qp k) (PV m c) (qc c) ∗ sRest c k) ⊢ (iprop(sIn m c k ∗ ownL m c k) : sProp 𝕄) := by
  unfold sRest sIn ownL
  by_cases h : on c k = true
  · rw [cnd_true h, cnd_true h, cnd_false (b := !on c k) (by rw [h]; rfl), sl_own c k hk, emp_r]
  · have h' : on c k = false := by simpa using h
    rw [cnd_false h', cnd_false h', cnd_true (b := !on c k) (by rw [h']; rfl), emp_l, emp_r]
theorem own_back (c : Dev nD) (k : Fin 13) (hk : k.val ≤ 4) :
    iprop(cnd (on c k) (hold pM c (qp k) (PV m c) (sl c k)) ∗ ownL m c k) = (hold pM c (qp k) (PV m c) (qc c) : sProp 𝕄) := by
  unfold ownL
  by_cases h : on c k = true
  · rw [cnd_true h, cnd_false (b := !on c k) (by rw [h]; rfl), sl_own c k hk, emp_r]
  · have h' : on c k = false := by simpa using h
    rw [cnd_false h', cnd_true (b := !on c k) (by rw [h']; rfl), emp_l]

/-- The own block, filled, lent to its five copies. -/
theorem own_lend (c : Dev nD) :
    iprop(hold pM c fullShare (PV m c) (qc c) ∗ sRest c 0 ∗ sRest c 1 ∗ sRest c 2 ∗ sRest c 3 ∗ sRest c 4)
      ⊢ (iprop(sIn m c 0 ∗ sIn m c 1 ∗ (sIn m c 2 ∗ sIn m c 3 ∗ sIn m c 4 ∗ hold pM c keep (PV m c) (qc c)
        ∗ ownL m c 0 ∗ ownL m c 1 ∗ ownL m c 2 ∗ ownL m c 3 ∗ ownL m c 4)) : sProp 𝕄) := by
  iintro ⟨H, R0, R1, R2, R3, R4⟩
  ihave H := (own_split m c).1 $$ H
  icases H with ⟨Hk, H0, H1, H2, H3, H4⟩
  ihave H := (own_in m c 0 (by decide)) $$ [H0 R0]
  · iframe H0 R0
  icases H with ⟨H0, L0⟩
  ihave H := (own_in m c 1 (by decide)) $$ [H1 R1]
  · iframe H1 R1
  icases H with ⟨H1, L1⟩
  ihave H := (own_in m c 2 (by decide)) $$ [H2 R2]
  · iframe H2 R2
  icases H with ⟨H2, L2⟩
  ihave H := (own_in m c 3 (by decide)) $$ [H3 R3]
  · iframe H3 R3
  icases H with ⟨H3, L3⟩
  ihave H := (own_in m c 4 (by decide)) $$ [H4 R4]
  · iframe H4 R4
  icases H with ⟨H4, L4⟩
  iframe

/-- The own block, whole again. -/
theorem own_join (c : Dev nD) :
    iprop(hold pM c keep (PV m c) (qc c)
        ∗ (cnd (on c 0) (hold pM c (qp 0) (PV m c) (sl c 0)) ∗ ownL m c 0) ∗ (cnd (on c 1) (hold pM c (qp 1) (PV m c) (sl c 1)) ∗ ownL m c 1)
        ∗ (cnd (on c 2) (hold pM c (qp 2) (PV m c) (sl c 2)) ∗ ownL m c 2) ∗ (cnd (on c 3) (hold pM c (qp 3) (PV m c) (sl c 3)) ∗ ownL m c 3)
        ∗ (cnd (on c 4) (hold pM c (qp 4) (PV m c) (sl c 4)) ∗ ownL m c 4))
      ⊢ (hold pM c fullShare (PV m c) (qc c) : sProp 𝕄) := by
  rw [own_back m c 0 (by decide), own_back m c 1 (by decide), own_back m c 2 (by decide), own_back m c 3 (by decide), own_back m c 4 (by decide)]
  exact (own_split m c).2

/-! ## Reading all eight blocks, and what is left besides -/

/-- What is left of a block received along the middle axis. -/
def keptR (c : Dev nD) (k : Fin 13) : sProp 𝕄 :=
  cnd (on c k) iprop(fin c (rs (sl c k)) ∗ hold pM c fullShare.right.right (PV m c) (sl c k))
def keptR' (c : Dev nD) (k k' : Fin 13) : sProp 𝕄 :=
  cnd (on c k) iprop(fin c (rs (sl c k)) ∗ cnd (!on c k') (hold pM c fullShare.right.right (PV m c) (sl c k)))
/-- What is left of a block of the other half. -/
def xR (c : Dev nD) (i : Fin 4) : sProp 𝕄 := iprop(fin c (rs (ox c i)) ∗ hold pM c fullShare.right (PV m c) (ox c i))

theorem kept_part (c : Dev nD) (k : Fin 13) : kept m c k ⊢ (iprop(cnd (on c k) (hold pM c keep (PV m c) (sl c k)) ∗ keptR m c k) : sProp 𝕄) := by
  unfold kept keptR; rw [cnd_sep]
  by_cases h : on c k = true
  · rw [cnd_true h, cnd_true h]; iintro ⟨H1, H2, H3⟩; iframe
  · have h' : on c k = false := by simpa using h
    rw [cnd_false h', cnd_false h']
theorem kept'_part (c : Dev nD) (k k' : Fin 13) : kept' m c k k' ⊢ (iprop(cnd (on c k) (hold pM c keep (PV m c) (sl c k)) ∗ keptR' m c k k') : sProp 𝕄) := by
  unfold kept' keptR'; rw [cnd_sep]
  by_cases h : on c k = true
  · rw [cnd_true h, cnd_true h]; iintro ⟨H1, H2, H3⟩; iframe
  · have h' : on c k = false := by simpa using h
    rw [cnd_false h', cnd_false h']
theorem x_part (c : Dev nD) (i : Fin 4) : xOut m c i ⊢ (iprop(hold pM c keep (PV m c) (ox c i) ∗ xR m c i) : sProp 𝕄) := by
  unfold xOut xR
  iintro ⟨Hf, H⟩
  ihave H := (hold_share pM c (PosShare.mem_left_op_right fullShare) (PV m c) (ox c i)).1 $$ H
  icases H with ⟨H1, H2⟩
  iframe

theorem gather (c : Dev nD) :
    iprop(hold pM c keep (PV m c) (qc c) ∗ (kept m c 5 ∗ kept m c 6 ∗ kept' m c 7 8 ∗ kept' m c 9 10 ∗ kept m c 11 ∗ kept m c 12)
        ∗ xOut m c 0 ∗ xOut m c 1 ∗ xOut m c 2 ∗ xOut m c 3)
      ⊢ (iprop(Y m c ∗ (keptR m c 5 ∗ keptR m c 6 ∗ keptR' m c 7 8 ∗ keptR' m c 9 10 ∗ keptR m c 11 ∗ keptR m c 12)
        ∗ xR m c 0 ∗ xR m c 1 ∗ xR m c 2 ∗ xR m c 3) : sProp 𝕄) := by
  unfold Y; rw [hold_slots pM c keep (PV m c), deal c (hold pM c keep (PV m c))]
  iintro ⟨Hq, ⟨K5, K6, K7, K9, K11, K12⟩, X0, X1, X2, X3⟩
  ihave H := (kept_part m c 5) $$ K5
  icases H with ⟨K5, L5⟩
  ihave H := (kept_part m c 6) $$ K6
  icases H with ⟨K6, L6⟩
  ihave H := (kept'_part m c 7 8) $$ K7
  icases H with ⟨K7, L7⟩
  ihave H := (kept'_part m c 9 10) $$ K9
  icases H with ⟨K9, L9⟩
  ihave H := (kept_part m c 11) $$ K11
  icases H with ⟨K11, L11⟩
  ihave H := (kept_part m c 12) $$ K12
  icases H with ⟨K12, L12⟩
  ihave H := (x_part m c 0) $$ X0
  icases H with ⟨X0, M0⟩
  ihave H := (x_part m c 1) $$ X1
  icases H with ⟨X1, M1⟩
  ihave H := (x_part m c 2) $$ X2
  icases H with ⟨X2, M2⟩
  ihave H := (x_part m c 3) $$ X3
  icases H with ⟨X3, M3⟩
  iframe

/-- A block received along the middle axis, whole again. -/
theorem str_back (c : Dev nD) (k : Fin 13) (hq : qp k = fullShare.right.left) :
    iprop(cnd (on c k) (hold pM c keep (PV m c) (sl c k)) ∗ keptR m c k ∗ cnd (on c k) (hold pM c (qp k) (PV m c) (sl c k)))
      ⊢ (iprop(cnd (on c k) (hold pM c fullShare (PV m c) (sl c k)) ∗ cnd (on c k) (fin c (rs (sl c k)))) : sProp 𝕄) := by
  unfold keptR; rw [cnd_sep, cnd_sep, cnd_sep, hq]
  by_cases h : on c k = true
  · rw [cnd_true h, cnd_true h]
    iintro ⟨H1, ⟨Hf, H3⟩, H2⟩
    isplitr [Hf]
    · iapply (three m c (sl c k)).2
      iframe
    · iexact Hf
  · have h' : on c k = false := by simpa using h
    rw [cnd_false h', cnd_false h']
theorem fwd_back (c : Dev nD) (k k' : Fin 13) (hq : qp k = fullShare.right.left) (hq' : qp k' = fullShare.right.right)
    (hi : on c k' = true → on c k = true ∧ sl c k' = sl c k) :
    iprop(cnd (on c k) (hold pM c keep (PV m c) (sl c k)) ∗ keptR' m c k k' ∗ cnd (on c k) (hold pM c (qp k) (PV m c) (sl c k))
        ∗ cnd (on c k') (hold pM c (qp k') (PV m c) (sl c k')))
      ⊢ (iprop(cnd (on c k) (hold pM c fullShare (PV m c) (sl c k)) ∗ cnd (on c k) (fin c (rs (sl c k)))) : sProp 𝕄) := by
  refine BIBase.Entails.trans ?_ (str_back m c k hq)
  unfold keptR' keptR
  rw [hq']
  by_cases h : on c k' = true
  · obtain ⟨h1, h2⟩ := hi h
    rw [cnd_true h, cnd_true h1, cnd_true h1, cnd_true h1, cnd_true h1, cnd_false (b := !on c k') (by rw [h]; rfl), h2]
    iintro ⟨H1, ⟨Hf, -⟩, H2, H3⟩
    iframe
  · have h' : on c k' = false := by simpa using h
    rw [cnd_false h', cnd_true (b := !on c k') (by rw [h']; rfl)]
    iintro ⟨H1, H2, H3, -⟩
    iframe
theorem x_back (c : Dev nD) (i : Fin 4) : iprop(hold pM c keep (PV m c) (ox c i) ∗ xR m c i)
    ⊢ (iprop(hold pM c fullShare (PV m c) (ox c i) ∗ fin c (rs (ox c i))) : sProp 𝕄) := by
  unfold xR
  iintro ⟨H1, Hf, H2⟩
  isplitr [Hf]
  · iapply (hold_share pM c (PosShare.mem_left_op_right fullShare) (PV m c) (ox c i)).2
    iframe
  · iexact Hf

/-- What the drains of the second phase's sends give back, besides their cells. -/
abbrev dr (c : Dev nD) (k : Fin 13) : sProp 𝕄 := cnd (on c k) (hold pM c (qp k) (PV m c) (sl c k))

/-- All eight blocks whole again, their receive cells done with. -/
theorem ungather (c : Dev nD) :
    iprop(Y m c ∗ (keptR m c 5 ∗ keptR m c 6 ∗ keptR' m c 7 8 ∗ keptR' m c 9 10 ∗ keptR m c 11 ∗ keptR m c 12)
        ∗ (xR m c 0 ∗ xR m c 1 ∗ xR m c 2 ∗ xR m c 3)
        ∗ (ownL m c 0 ∗ ownL m c 1 ∗ ownL m c 2 ∗ ownL m c 3 ∗ ownL m c 4) ∗ fin c (rs (qc c))
        ∗ (dr m c 0 ∗ dr m c 1 ∗ dr m c 2 ∗ dr m c 3 ∗ dr m c 4 ∗ dr m c 5 ∗ dr m c 6 ∗ dr m c 7 ∗ dr m c 8 ∗ dr m c 9 ∗ dr m c 10 ∗ dr m c 11 ∗ dr m c 12))
      ⊢ (iprop(bigSep Finset.univ (hold pM c fullShare (PV m c)) ∗ bigSep Finset.univ (fun j => fin c (rs j))) : sProp 𝕄) := by
  unfold Y; rw [hold_slots pM c keep (PV m c), deal c (hold pM c keep (PV m c)), deal c (hold pM c fullShare (PV m c)), deal c (fun j => fin c (rs j))]
  iintro ⟨⟨Hq, ⟨K5, K6, K7, K9, K11, K12⟩, X0, X1, X2, X3⟩, ⟨L5, L6, L7, L9, L11, L12⟩, ⟨M0, M1, M2, M3⟩, ⟨O0, O1, O2, O3, O4⟩, Hf,
    D0, D1, D2, D3, D4, D5, D6, D7, D8, D9, D10, D11, D12⟩
  ihave Hq := (own_join m c) $$ [Hq O0 O1 O2 O3 O4 D0 D1 D2 D3 D4]
  · iframe Hq O0 O1 O2 O3 O4 D0 D1 D2 D3 D4
  ihave H := (str_back m c 5 rfl) $$ [K5 L5 D5]
  · iframe K5 L5 D5
  icases H with ⟨K5, L5⟩
  ihave H := (str_back m c 6 rfl) $$ [K6 L6 D6]
  · iframe K6 L6 D6
  icases H with ⟨K6, L6⟩
  ihave H := (str_back m c 11 rfl) $$ [K11 L11 D11]
  · iframe K11 L11 D11
  icases H with ⟨K11, L11⟩
  ihave H := (str_back m c 12 rfl) $$ [K12 L12 D12]
  · iframe K12 L12 D12
  icases H with ⟨K12, L12⟩
  ihave H := (fwd_back m c 7 8 rfl rfl (fwd_7 c)) $$ [K7 L7 D7 D8]
  · iframe K7 L7 D7 D8
  icases H with ⟨K7, L7⟩
  ihave H := (fwd_back m c 9 10 rfl rfl (fwd_9 c)) $$ [K9 L9 D9 D10]
  · iframe K9 L9 D9 D10
  icases H with ⟨K9, L9⟩
  ihave H := (x_back m c 0) $$ [X0 M0]
  · iframe X0 M0
  icases H with ⟨X0, M0⟩
  ihave H := (x_back m c 1) $$ [X1 M1]
  · iframe X1 M1
  icases H with ⟨X1, M1⟩
  ihave H := (x_back m c 2) $$ [X2 M2]
  · iframe X2 M2
  icases H with ⟨X2, M2⟩
  ihave H := (x_back m c 3) $$ [X3 M3]
  · iframe X3 M3
  icases H with ⟨X3, M3⟩
  iframe

end Cert.Proof
end
-- ==== Proof.Reduce.lean ====
module

public import proofs.«01_k».proof.Proof.Access

@[expose] public section

/-!
# The first phase, part by part

What the parts of the body that load the argument's blocks, pass the barrier and reduce along the last axis take
and leave.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

/-- The barrier's semaphore, as the body carries it. -/
abbrev barA : Sems sig S_ := SemArray.scalar (sig.barrier 0 rfl)

/-- What a load takes, and the credit it leaves. -/
def lIn (c : Dev nD) (k : Fin 4) : sProp 𝕄 := iprop(aHold m c k ∗ any xM c k ∗ tok c (nl k))
def lC (c : Dev nD) (k : Fin 4) : sProp 𝕄 := cred (tallyAt (dcell c (nl k)) () NX)
/-- What its wait takes, and what it leaves. -/
def lW (c : Dev nD) (k : Fin 4) : sProp 𝕄 := iprop(pos c (nl k) ∗ lC c k)
abbrev lOut (c : Dev nD) (k : Fin 4) : sProp 𝕄 := iprop(fin c (nl k) ∗ hold xM c fullShare (XS m c) k ∗ aHold m c k)
/-- What a signal takes. -/
def gIn (c : Dev nD) (k : Fin 8) : sProp 𝕄 := iprop(dutyTok ER (bcell (bt c k)) 0 (bd c k) ∗ barPay (bt c k) (bd c k))
/-- What a copy of the first phase takes. -/
def zIn (c : Dev nD) (o : Fin 3) : sProp 𝕄 :=
  iprop(hold tM c fullShare (ST m c) o ∗ any rM (zp c o) o.rev ∗ tok c (ns o) ∗ tok (zp c o) (nr o.rev))
/-- What a receive of the first phase takes, and what it leaves. -/
def zW (c : Dev nD) (s : Fin 3) : sProp 𝕄 := iprop(pos c (nr s) ∗ crd c (nr s))
abbrev zOut (c : Dev nD) (s : Fin 3) : sProp 𝕄 := iprop(fin c (nr s) ∗ hold rM c fullShare (RV m c) s)

theorem lv_nl (c : Dev nD) (k : Fin 4) : lv (dcell c (nl k)) () = 0 := by
  have e : ∀ k : Fin 4, (own (nl k)).val < 9 := by decide
  unfold lv; exact if_pos (e k)
theorem lv_nr (c : Dev nD) (s : Fin 3) : lv (dcell c (nr s)) () = 2 := by
  have e : ∀ s : Fin 3, ¬ (own (nr s)).val < 9 ∧ (own (nr s)).val < 12 := by decide
  unfold lv; exact (if_neg (e s).1).trans (if_pos (e s).2)

/-- A staged block, as it is stored. -/
theorem staged (c : Dev nD) (o : Fin 3) (p : Vec F S1x1024x128 .f32 → FVec F S1x1024x128 .bf16) (hp : p = k0_pay1 (F := F)) :
    p (up ((slot xM o.succ).view.read (Elt F) (XS m c))) = up ((slot tM o).view.read (Elt F) (ST m c)) := by
  subst hp
  rw [read_XS, read_ST]
  unfold k0_pay1 stV
  refine (cast_up (F := F) (e := .bf16) _).trans ?_
  have e := up_cast (F := F) (e := .f32) (ldV m c o.succ)
  exact congrArg (fun v : FVec F S1024x128 .f32 => up (e := .bf16) (truncf .bf16 v bitsLt_bf16_f32) ) e

section Parts
variable (c : Dev nD)
local notation "WP" => wp frame (wpE (defs₀ (F := F)) 𝒱₀ (c : Thread nD τ) none) Set.univ

section Steps
variable {α : Type} {Q : α → sProp (MT nD τ sig Unit (Elt F) ℕ UU ℕ)} {K : Prog (TpuEff nD τ sig (Elt F) Λ₀ .tc) α}

theorem load (k : Fin 4) {sr : Memref sig .tc .hbm S1024x128 .f32} (hsr : sr = lM c k)
    {ds : Memref sig .tc .vmem S1024x128 .f32} (hds : ds = slot xM k) {s : DmaSem sig} (hs : s = own (nl k))
    {h1 : sr.view.WordExact} {h2 : ds.view.WordExact} {h3 : DmaTarget.Typed (nD := nD) .hbm (.dma s) (.here (p := .tc) ds)} :
    iprop(ctx m κ ∗ lIn m c k) ⊢ iprop((lC c k -∗ WP K Q) -∗ WP (.op (.enqueueDma sr (.here ds) (.dma s) h1 h2 h3) fun _ => K) Q) :=
  step_load m κ c k hsr hds hs

theorem signal (k : Fin 8) (t t' : ℕ) (ht : t = k.val) (ht' : t' = k.val + 1) {p : Dev nD} (hp : p = bt c k) {s : Sem sig} (hs : s = barS) {w : ℤ} (hw : w = 1) :
    iprop(ctx m κ ∗ gIn c k ∗ Owes c t) ⊢ iprop((Owes c t' -∗ WP K Q) -∗ WP (.op (.semSignal (p : Thread nD τ) s w) fun _ => K) Q) := by
  subst ht ht' hw
  unfold gIn
  iintro ⟨#Hc, ⟨Ht, Hp⟩, Ho⟩
  iapply (step_signal m κ c k p hp hs rfl)
  iframe # Ht Hp Ho

theorem loaded (k : Fin 4) (t : ℕ) (ht : 8 ≤ t) {sm : DmaSem sig} (hsm : sm = own (nl k)) {sr : Memref sig .tc .hbm S1024x128 .f32}
    {ds : Memref sig .tc .vmem S1024x128 .f32} (hds : ds = slot xM k) {h1 : sr.view.WordExact} {h2 : ds.view.WordExact} :
    iprop(ctx m κ ∗ lW c k ∗ Owes c t) ⊢ iprop(((lOut m c k ∗ Owes c t) -∗ WP K Q) -∗ WP (.op (.waitDma2 sm sr ds h1 h2) fun _ => K) Q) := by
  subst hds
  unfold lW lC
  iintro ⟨#Hc, ⟨Hp, Hcr⟩, Ho⟩ HK
  iapply (step_wait m κ c (nl k) NX t 0 (has_nl c k) (expect_l m c k) (le_of_eq (lv_nl c k)) (lv_early c ht (by decide)) hsm (credit_x k)) $$ [Hp Hcr Ho]
  · iframe # Hp Hcr Ho
  rw [dPay_l]
  iintro ⟨Hf, Ho, Hx, Ha⟩
  iapply HK
  unfold lOut
  iframe

theorem send_z (o : Fin 3) (t t' : ℕ) (ht : t = 8 + o.val) (ht' : t' = 8 + o.val + 1)
    {p : Dev nD} (hp : p = zp c o) {sr : Memref sig .tc .vmem S1024x128 .bf16} (hsr : sr = slot tM o)
    {ds : Memref sig (Dev.tc p : Thread nD τ).2.kind .vmem S1024x128 .bf16} (hds : ds = slot rM o.rev) {sa sb : DmaSem sig}
    (hsa : sa = own (ns o)) (hsb : sb = own (nr o.rev))
    {hsc : ds.view.ref.isScScratch = false} {h1 : sr.view.WordExact} {h2 : ds.view.WordExact}
    {h3 : DmaTarget.Typed .vmem (.dma sb) (.remote (Dev.tc p : Thread nD τ) ds (.dma sa) hsc)} :
    iprop(ctx m κ ∗ zIn m c o ∗ Owes c t)
      ⊢ iprop(((crd c (ns o) ∗ Owes c t') -∗ WP K Q)
        -∗ WP (.op (.enqueueDma sr (.remote (Dev.tc p : Thread nD τ) ds (.dma sa) hsc) (.dma sb) h1 h2 h3) fun _ => K) Q) := by
  subst ht ht'
  have h4 : 4 ≤ (ns o).val ∧ 4 ≤ (nr o.rev).val := by unfold ns nr; exact ⟨show 4 ≤ 4 + o.val by omega, show 4 ≤ 7 + o.rev.val by omega⟩
  unfold zIn
  iintro ⟨#Hc, ⟨H1, H2, H3, H4⟩, HO⟩
  iapply (step_send m κ c (8 + o.val) (by have := o.isLt; omega) (M₁ := tM) (M₂ := rM) o o.rev (zp c o) (ns o) (nr o.rev) fullShare
    (ST m c) (RV m (zp c o)) (has_ns c o) (has_nr _ _) h4.1 h4.2 (payT_z c o) (credit_r _) (dPay_s m c o) (dPay_r m (zp c o) o.rev)
    (by rw [read_RV, read_ST, show zsrc (zp c o) o.rev = c from zp_rev c o, Fin.rev_rev]) hp hsr hds hsa hsb)
  iframe # H1 H2 HO H3 H4

theorem recv_z (s : Fin 3) {sm : DmaSem sig} (hsm : sm = own (nr s)) {sr ds : Memref sig .tc .vmem S1024x128 .bf16} (hds : ds = slot rM s)
    {h1 : sr.view.WordExact} {h2 : ds.view.WordExact} :
    iprop(ctx m κ ∗ zW c s ∗ Owes c 11) ⊢ iprop(((zOut m c s ∗ Owes c 11) -∗ WP K Q) -∗ WP (.op (.waitDma2 sm sr ds h1 h2) fun _ => K) Q) := by
  subst hds
  have h4 : 4 ≤ (nr s).val := by unfold nr; exact show 4 ≤ 7 + s.val by omega
  unfold zW crd
  iintro ⟨#Hc, ⟨Hp, Hcr⟩, Ho⟩ HK
  iapply (step_wait m κ c (nr s) NP 11 2 (has_nr c s) (expect_d m c _ h4 (has_nr c s)) (le_of_eq (lv_nr c s))
    (lv_late c (by decide) fun k _ _ => lt_of_lt_of_le (by decide) (rlev_ge _ _)) hsm (credit_r s)) $$ [Hp Hcr Ho]
  · iframe # Hp Hcr Ho
  rw [dPay_r]
  iintro ⟨Hf, Ho, Hx⟩
  iapply HK
  unfold zOut
  iframe
end Steps

theorem part1 {Φ : _ → sProp (MT nD τ sig Unit (Elt F) ℕ UU ℕ)} :
    iprop(ctx m κ ∗ lIn m c 0 ∗ lIn m c 1)
      ⊢ iprop((∀ r, (lC c 0 ∗ lC c 1) -∗ Φ ⟨c, r⟩) -∗ WP (app (k0_part1_skel (F := F))) Φ) := by
  unfold app k0_part1_skel
  simp -zetaHave -proj only [semSignalWord, semWaitWord, Prog.lift, Prog.bind_op, Prog.bind_ret, Prog.pure_eq_ret]
  rw [wp_deviceId]
  iintro ⟨#Hc, L0, L1⟩ HΦ
  iapply (load m κ c 0 rfl rfl rfl) $$ [L0]
  · iframe # L0
  iintro L0
  iapply (load m κ c 1 rfl rfl rfl) $$ [L1]
  · iframe # L1
  iintro L1
  iapply (ret_of c _)
  iapply HΦ
  iframe

theorem part2 (v2 : BitVec 32) (v5 : BitVec 32) (v8 : BitVec 32) (v30 : BitVec 32) (c1024_i32_18 : BitVec 32) {Φ : _ → sProp (MT nD τ sig Unit (Elt F) ℕ UU ℕ)} :
    iprop(ctx m κ ∗ lIn m c 2 ∗ lIn m c 3 ∗ gIn c 0 ∗ gIn c 1 ∗ Owes c 0)
      ⊢ iprop(((lC c 2 ∗ lC c 3 ∗ Owes c 2) -∗ Φ barA) -∗ WP (app (k0_part2_skel (F := F)) c v2 v5 v8 v30 c1024_i32_18) Φ) := by
  unfold app k0_part2_skel
  simp -zetaHave -proj only [semSignalWord, semWaitWord, Prog.lift, Prog.bind_op, Prog.bind_ret, Prog.pure_eq_ret]
  iintro ⟨#Hc, L2, L3, G0, G1, Ho⟩ HΦ
  iapply (load m κ c 2 rfl rfl rfl) $$ [L2]
  · iframe # L2
  iintro L2
  iapply (load m κ c 3 rfl rfl rfl) $$ [L3]
  · iframe # L3
  iintro L3
  iapply (signal m κ c 0 0 1 rfl rfl (dev1_eq c) rfl rfl) $$ [G0 Ho]
  · iframe # G0 Ho
  iintro Ho
  iapply (signal m κ c 1 1 2 rfl rfl (dev2_eq c) rfl rfl) $$ [G1 Ho]
  · iframe # G1 Ho
  iintro Ho
  iapply (ret_of c _)
  iapply HΦ
  iframe

theorem part3 (v2 : BitVec 32) (v5 : BitVec 32) (v8 : BitVec 32) (v11 : BitVec 32) {Φ : _ → sProp (MT nD τ sig Unit (Elt F) ℕ UU ℕ)} :
    iprop(ctx m κ ∗ gIn c 2 ∗ gIn c 3 ∗ gIn c 4 ∗ Owes c 2)
      ⊢ iprop((∀ r, Owes c 5 -∗ Φ r) -∗ WP (app (k0_part3_skel (F := F)) c v2 v5 v8 v11 barA) Φ) := by
  unfold app k0_part3_skel
  simp -zetaHave -proj only [semSignalWord, semWaitWord, Prog.lift, Prog.bind_op, Prog.bind_ret, Prog.pure_eq_ret]
  iintro ⟨#Hc, G2, G3, G4, Ho⟩ HΦ
  iapply (signal m κ c 2 2 3 rfl rfl (dev3_eq c) rfl rfl) $$ [G2 Ho]
  · iframe # G2 Ho
  iintro Ho
  iapply (signal m κ c 3 3 4 rfl rfl (dev4_eq c) rfl rfl) $$ [G3 Ho]
  · iframe # G3 Ho
  iintro Ho
  iapply (signal m κ c 4 4 5 rfl rfl (dev5_eq c) rfl rfl) $$ [G4 Ho]
  · iframe # G4 Ho
  iintro Ho
  iapply (ret_of c _)
  iapply HΦ
  iframe

theorem part4 (v2 : BitVec 32) (v5 : BitVec 32) (v8 : BitVec 32) (v92 : BitVec 1) {Φ : _ → sProp (MT nD τ sig Unit (Elt F) ℕ UU ℕ)} :
    iprop(ctx m κ ∗ gIn c 5 ∗ gIn c 6 ∗ Owes c 5)
      ⊢ iprop((∀ r, Owes c 7 -∗ Φ r) -∗ WP (app (k0_part4_skel (F := F)) c v2 v5 v8 barA v92) Φ) := by
  unfold app k0_part4_skel
  simp -zetaHave -proj only [semSignalWord, semWaitWord, Prog.lift, Prog.bind_op, Prog.bind_ret, Prog.pure_eq_ret]
  iintro ⟨#Hc, G5, G6, Ho⟩ HΦ
  iapply (signal m κ c 5 5 6 rfl rfl (dev6_eq c) rfl rfl) $$ [G5 Ho]
  · iframe # G5 Ho
  iintro Ho
  iapply (signal m κ c 6 6 7 rfl rfl (dev7_eq c) rfl rfl) $$ [G6 Ho]
  · iframe # G6 Ho
  iintro Ho
  iapply (ret_of c _)
  iapply HΦ
  iframe

theorem part5 (v2 : BitVec 32) (v5 : BitVec 32) (v8 : BitVec 32) (v122 : BitVec 1) (v124 : BitVec 1) {Φ : _ → sProp (MT nD τ sig Unit (Elt F) ℕ UU ℕ)} :
    iprop(ctx m κ ∗ gIn c 7 ∗ cred (tallyAt (bcell c) () 8) ∗ atPos ER (bcell c) 0 ∅ 0 ∗ lW c 1 ∗ any tM c 0 ∗ Owes c 7)
      ⊢ iprop((∀ r, (semVal (bcell c) 0 ∗ bigSep Finset.univ (barPay c) ∗ lOut m c 1 ∗ hold tM c fullShare (ST m c) 0 ∗ Owes c 8) -∗ Φ r)
        -∗ WP (app (k0_part5_skel (F := F)) c v2 v5 v8 barA v122 v124) Φ) := by
  unfold app k0_part5_skel
  simp -zetaHave -proj only [semSignalWord, semWaitWord, Prog.lift, Prog.bind_op, Prog.bind_ret, Prog.pure_eq_ret]
  iintro ⟨#Hc, G7, Hb, Hp, W1, T0, Ho⟩ HΦ
  iapply (signal m κ c 7 7 8 rfl rfl (dev8_eq c) rfl rfl) $$ [G7 Ho]
  · iframe # G7 Ho
  iintro Ho
  iapply (step_bar m κ c rfl rfl (lv_early c (by decide) (by decide))) $$ [Hb Hp Ho]
  · iframe # Hb Hp Ho
  iintro ⟨Hb, Ho, Hp⟩
  iapply (loaded m κ c 1 8 (by decide) rfl rfl) $$ [W1 Ho]
  · iframe # W1 Ho
  iintro ⟨⟨F1, X1, A1⟩, Ho⟩
  iapply (step_read c xM 1 fullShare (XS m c) rfl) $$ X1
  iintro X1
  iapply (step_peek c tM 0 rfl) $$ T0
  iintro T0
  iapply (step_write c tM 0 (ST m c) rfl (staged m c 0 k0_pay1 rfl)) $$ T0
  iintro T0
  iapply (ret_of c _)
  iapply HΦ
  unfold lOut
  iframe

theorem part6 (v2 : BitVec 32) (v5 : BitVec 32) (v8 : BitVec 32) (v137 : BitVec 32) (v150 : BitVec 32) (v151 : BitVec 32) {Φ : _ → sProp (MT nD τ sig Unit (Elt F) ℕ UU ℕ)} :
    iprop(ctx m κ ∗ zIn m c 0 ∗ lW c 2 ∗ any tM c 1 ∗ Owes c 8)
      ⊢ iprop((∀ r, (crd c (ns 0) ∗ lOut m c 2 ∗ hold tM c fullShare (ST m c) 1 ∗ Owes c 9) -∗ Φ r)
        -∗ WP (app (k0_part6_skel (F := F)) c v2 v5 v8 v137 v150 v151) Φ) := by
  unfold app k0_part6_skel
  simp -zetaHave -proj only [semSignalWord, semWaitWord, Prog.lift, Prog.bind_op, Prog.bind_ret, Prog.pure_eq_ret]
  iintro ⟨#Hc, Z0, W2, T1, Ho⟩ HΦ
  iapply (send_z m κ c 0 8 9 rfl rfl (dev9_eq c) rfl rfl rfl rfl) $$ [Z0 Ho]
  · iframe # Z0 Ho
  iintro ⟨Z0, Ho⟩
  iapply (loaded m κ c 2 9 (by decide) rfl rfl) $$ [W2 Ho]
  · iframe # W2 Ho
  iintro ⟨⟨F2, X2, A2⟩, Ho⟩
  iapply (step_read c xM 2 fullShare (XS m c) rfl) $$ X2
  iintro X2
  iapply (step_peek c tM 1 rfl) $$ T1
  iintro T1
  iapply (step_write c tM 1 (ST m c) rfl (staged m c 1 k0_pay2 rfl)) $$ T1
  iintro T1
  iapply (ret_of c _)
  iapply HΦ
  unfold lOut
  iframe

theorem part7 (v2 : BitVec 32) (v5 : BitVec 32) (v8 : BitVec 32) {Φ : _ → sProp (MT nD τ sig Unit (Elt F) ℕ UU ℕ)} :
    iprop(ctx m κ ∗ zIn m c 1 ∗ lW c 3 ∗ any tM c 2 ∗ Owes c 9)
      ⊢ iprop((∀ r, (crd c (ns 1) ∗ lOut m c 3 ∗ hold tM c fullShare (ST m c) 2 ∗ Owes c 10) -∗ Φ r)
        -∗ WP (app (k0_part7_skel (F := F)) c v2 v5 v8) Φ) := by
  unfold app k0_part7_skel
  simp -zetaHave -proj only [semSignalWord, semWaitWord, Prog.lift, Prog.bind_op, Prog.bind_ret, Prog.pure_eq_ret]
  iintro ⟨#Hc, Z1, W3, T2, Ho⟩ HΦ
  iapply (send_z m κ c 1 9 10 rfl rfl (dev10_eq c) rfl rfl rfl rfl) $$ [Z1 Ho]
  · iframe # Z1 Ho
  iintro ⟨Z1, Ho⟩
  iapply (loaded m κ c 3 10 (by decide) rfl rfl) $$ [W3 Ho]
  · iframe # W3 Ho
  iintro ⟨⟨F3, X3, A3⟩, Ho⟩
  iapply (step_read c xM 3 fullShare (XS m c) rfl) $$ X3
  iintro X3
  iapply (step_peek c tM 2 rfl) $$ T2
  iintro T2
  iapply (step_write c tM 2 (ST m c) rfl (staged m c 2 k0_pay3 rfl)) $$ T2
  iintro T2
  iapply (ret_of c _)
  iapply HΦ
  unfold lOut
  iframe

theorem part8 (v2 : BitVec 32) (v5 : BitVec 32) (v8 : BitVec 32) {Φ : _ → sProp (MT nD τ sig Unit (Elt F) ℕ UU ℕ)} :
    iprop(ctx m κ ∗ zIn m c 2 ∗ zW c 0 ∗ zW c 1 ∗ Owes c 10)
      ⊢ iprop((∀ r, (crd c (ns 2) ∗ zOut m c 0 ∗ zOut m c 1 ∗ Owes c 11) -∗ Φ r) -∗ WP (app (k0_part8_skel (F := F)) c v2 v5 v8) Φ) := by
  unfold app k0_part8_skel
  simp -zetaHave -proj only [semSignalWord, semWaitWord, Prog.lift, Prog.bind_op, Prog.bind_ret, Prog.pure_eq_ret]
  iintro ⟨#Hc, Z2, V0, V1, Ho⟩ HΦ
  iapply (send_z m κ c 2 10 11 rfl rfl (dev11_eq c) rfl rfl rfl rfl) $$ [Z2 Ho]
  · iframe # Z2 Ho
  iintro ⟨Z2, Ho⟩
  iapply (recv_z m κ c 0 rfl rfl) $$ [V0 Ho]
  · iframe # V0 Ho
  iintro ⟨⟨F0, V0⟩, Ho⟩
  iapply (recv_z m κ c 1 rfl rfl) $$ [V1 Ho]
  · iframe # V1 Ho
  iintro ⟨⟨F1, V1⟩, Ho⟩
  iapply (ret_of c _)
  iapply HΦ
  unfold zOut
  iframe

theorem part9 (v2 : BitVec 32) (v5 : BitVec 32) (v8 : BitVec 32) (v10 : BitVec 32) (c16_i32_197 : BitVec 32) {Φ : _ → sProp (MT nD τ sig Unit (Elt F) ℕ UU ℕ)} :
    iprop(ctx m κ ∗ zW c 2 ∗ lW c 0 ∗ zOut m c 0 ∗ zOut m c 1 ∗ Owes c 11)
      ⊢ iprop(((lOut m c 0 ∗ zOut m c 0 ∗ zOut m c 1 ∗ zOut m c 2 ∗ Owes c 11) -∗ Φ (yV m c)) -∗ WP (app (k0_part9_skel (F := F)) c v2 v5 v8 v10 c16_i32_197) Φ) := by
  unfold app k0_part9_skel
  simp -zetaHave -proj only [semSignalWord, semWaitWord, Prog.lift, Prog.bind_op, Prog.bind_ret, Prog.pure_eq_ret]
  iintro ⟨#Hc, V2, W0, ⟨F0, V0⟩, ⟨F1, V1⟩, Ho⟩ HΦ
  iapply (recv_z m κ c 2 rfl rfl) $$ [V2 Ho]
  · iframe # V2 Ho
  iintro ⟨⟨F2, V2⟩, Ho⟩
  iapply (loaded m κ c 0 11 (by decide) rfl rfl) $$ [W0 Ho]
  · iframe # W0 Ho
  iintro ⟨⟨G0, X0, A0⟩, Ho⟩
  iapply (step_read c rM 0 fullShare (RV m c) rfl) $$ V0
  iintro V0
  iapply (step_read c rM 1 fullShare (RV m c) rfl) $$ V1
  iintro V1
  iapply (step_read c rM 2 fullShare (RV m c) rfl) $$ V2
  iintro V2
  iapply (step_read c xM 0 fullShare (XS m c) rfl) $$ X0
  iintro X0
  have e : k0_pay4 (up ((slot rM 0).view.read (Elt F) (RV m c))) (up ((slot rM 1).view.read (Elt F) (RV m c)))
      (up ((slot rM 2).view.read (Elt F) (RV m c))) (up ((slot xM 0).view.read (Elt F) (XS m c))) = yV m c := by
    rw [read_RV, read_RV, read_RV, read_XS]; rfl
  rw [e]
  iapply (ret_of c _)
  iapply HΦ
  unfold lOut zOut
  iframe
end Parts
end Cert.Proof
end
-- ==== Proof.Run.lean ====
module

public import proofs.«01_k».proof.Proof.Deal
public import proofs.«01_k».proof.Proof.Reduce

@[expose] public section

/-!
# The body's run

The parts in order, from what a device starts with to what it ends with.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (κ : Dev nD × Fin 32 → ℕ)

theorem ns_ge (o : Fin 3) : 4 ≤ (ns o).val := by unfold ns; exact show 4 ≤ 4 + o.val by omega

/-- What a drain of a first-phase send takes, and what it leaves. -/
def nW (c : Dev nD) (o : Fin 3) : sProp 𝕄 := iprop(pos c (ns o) ∗ crd c (ns o))
abbrev nOut (c : Dev nD) (o : Fin 3) : sProp 𝕄 := iprop(fin c (ns o) ∗ hold tM c fullShare (ST m c) o)
/-- What a drain of a second-phase send takes. -/
def dIn (c : Dev nD) (k : Fin 13) : sProp 𝕄 := iprop(sOut c k ∗ pos c (ss k))

theorem lW_of (c : Dev nD) (k : Fin 4) : iprop(pos c (nl k) ∗ lC c k) ⊢ (lW c k : sProp 𝕄) := .rfl
theorem zIn_of (c : Dev nD) (o : Fin 3) : iprop(hold tM c fullShare (ST m c) o ∗ any rM (zp c o) o.rev ∗ tok c (ns o) ∗ tok (zp c o) (nr o.rev)) ⊢ (zIn m c o : sProp 𝕄) := .rfl
theorem nW_of (c : Dev nD) (o : Fin 3) : iprop(pos c (ns o) ∗ crd c (ns o)) ⊢ (nW c o : sProp 𝕄) := .rfl
theorem dIn_of (c : Dev nD) (k : Fin 13) : iprop(sOut c k ∗ pos c (ss k)) ⊢ (dIn c k : sProp 𝕄) := .rfl
theorem has_own : ∀ c : Dev nD, has c (rs (qc c)) = false := by decide +kernel

section Parts
variable (c : Dev nD)
local notation "WP" => wp frame (wpE (defs₀ (F := F)) 𝒱₀ (c : Thread nD τ) none) Set.univ

section Steps
variable {α : Type} {Q : α → sProp (MT nD τ sig Unit (Elt F) ℕ UU ℕ)} {K : Prog (TpuEff nD τ sig (Elt F) Λ₀ .tc) α}

/-- The end of a copy of the first phase. -/
theorem drain_z (o : Fin 3) {sm : DmaSem sig} (hsm : sm = own (ns o)) {sr ds : Memref sig .tc .vmem S1024x128 .bf16} (hds : ds = slot tM o)
    {h1 : sr.view.WordExact} {h2 : ds.view.WordExact} :
    iprop(ctx m κ ∗ nW c o ∗ Owes c 24) ⊢ iprop(((nOut m c o ∗ Owes c 24) -∗ WP K Q) -∗ WP (.op (.waitDma2 sm sr ds h1 h2) fun _ => K) Q) := by
  subst hds
  unfold nW crd
  iintro ⟨#Hc, ⟨Hp, Hcr⟩, Ho⟩ HK
  iapply (step_wait m κ c (ns o) NP 24 (lv (dcell c (ns o)) ()) (has_ns c o) (expect_d m c _ (ns_ge o) (has_ns c o)) le_rfl (lv_end c) hsm (credit_t o)) $$ [Hp Hcr Ho]
  · iframe # Hp Hcr Ho
  rw [dPay_s]
  iintro ⟨Hf, Ho, Hx⟩
  iapply HK
  unfold nOut
  iframe

/-- The end of the first copy of the second. -/
theorem drain_0 {sm : DmaSem sig} (hsm : sm = own (ss 0)) {sr ds : Memref sig .tc .vmem S1024x128 .bf16} (hds : ds = slot pM (sl c 0))
    {h1 : sr.view.WordExact} {h2 : ds.view.WordExact} :
    iprop(ctx m κ ∗ dIn c 0 ∗ Owes c 24) ⊢ iprop(((drained m c 0 ∗ Owes c 24) -∗ WP K Q) -∗ WP (.op (.waitDma2 sm sr ds h1 h2) fun _ => K) Q) := by
  have H := drain_if m κ c 0 (K := K) (Q := Q) (p := True) ⟨fun _ => on_0 c, fun _ => trivial⟩ (sm := fun _ => sm) (fun _ => hsm) (sr := fun _ => sr) (ds := fun _ => ds)
    (fun _ _ => hds) (h1 := fun _ => h1) (h2 := fun _ => h2)
  rw [guarded_pos trivial] at H
  unfold dIn
  iintro ⟨#Hc, ⟨Hs, Hp⟩, Ho⟩
  iapply H
  iframe # Hs Hp Ho

theorem drain (k : Fin 13) {p : Prop} (hp : p ↔ on c k = true)
    {sm : p → DmaSem sig} (hsm : ∀ h, sm h = own (ss k))
    {sr ds : p → Memref sig .tc .vmem S1024x128 .bf16} (hds : ∀ h, on c k = true → ds h = slot pM (sl c k))
    {h1 : ∀ h, (sr h).view.WordExact} {h2 : ∀ h, (ds h).view.WordExact} :
    iprop(ctx m κ ∗ dIn c k ∗ Owes c 24)
      ⊢ iprop(((drained m c k ∗ Owes c 24) -∗ WP K Q)
        -∗ WP (guarded p (fun h => .op (.waitDma2 (sm h) (sr h) (ds h) (h1 h) (h2 h)) fun _ => K) K) Q) := by
  unfold dIn
  iintro ⟨#Hc, ⟨Hs, Hp⟩, Ho⟩
  iapply (drain_if m κ c k hp hsm hds)
  iframe # Hs Hp Ho
end Steps

theorem part20 (v295 : BitVec 1) {Φ : _ → sProp (MT nD τ sig Unit (Elt F) ℕ UU ℕ)} :
    iprop(ctx m κ ∗ nW c 0 ∗ nW c 1 ∗ nW c 2 ∗ dIn c 0 ∗ Owes c 24)
      ⊢ iprop((∀ r, (nOut m c 0 ∗ nOut m c 1 ∗ nOut m c 2 ∗ drained m c 0 ∗ Owes c 24) -∗ Φ r) -∗ WP (app (k0_part20_skel (F := F)) c v295) Φ) := by
  unfold app k0_part20_skel
  simp -zetaHave -proj only [Prog.lift, Prog.bind_op, Prog.bind_ret, Prog.pure_eq_ret]
  iintro ⟨#Hc, N0, N1, N2, D0, Ho⟩ HΦ
  iapply (drain_z m κ c 0 rfl rfl) $$ [N0 Ho]
  · iframe # N0 Ho
  iintro ⟨⟨E0, N0⟩, Ho⟩
  iapply (drain_z m κ c 1 rfl rfl) $$ [N1 Ho]
  · iframe # N1 Ho
  iintro ⟨⟨E1, N1⟩, Ho⟩
  iapply (drain_z m κ c 2 rfl rfl) $$ [N2 Ho]
  · iframe # N2 Ho
  iintro ⟨⟨E2, N2⟩, Ho⟩
  iapply (drain_0 m κ c rfl (slot_at _ (off4_eq c (on_0 c)) _)) $$ [D0 Ho]
  · iframe # D0 Ho
  iintro ⟨D0, Ho⟩
  iapply (ret_of c _)
  iapply HΦ
  unfold nOut
  iframe

/-- What a device's body starts from, besides the windows and what it owes. -/
abbrev bodyIn : sProp 𝕄 :=
  iprop((lIn m c 0 ∗ lIn m c 1 ∗ lIn m c 2 ∗ lIn m c 3)
    ∗ (gIn c 0 ∗ gIn c 1 ∗ gIn c 2 ∗ gIn c 3 ∗ gIn c 4 ∗ gIn c 5 ∗ gIn c 6 ∗ gIn c 7)
    ∗ (pos c (nl 0) ∗ pos c (nl 1) ∗ pos c (nl 2) ∗ pos c (nl 3))
    ∗ (cred (tallyAt (bcell c) () 8) ∗ atPos ER (bcell c) 0 ∅ 0)
    ∗ (any tM c 0 ∗ any tM c 1 ∗ any tM c 2)
    ∗ ((tok c (ns 0) ∗ tok (zp c 0) (nr 2)) ∗ (tok c (ns 1) ∗ tok (zp c 1) (nr 1)) ∗ (tok c (ns 2) ∗ tok (zp c 2) (nr 0)))
    ∗ (zW c 0 ∗ zW c 1 ∗ zW c 2)
    ∗ (pos c (ns 0) ∗ pos c (ns 1) ∗ pos c (ns 2))
    ∗ any pM c (qc c)
    ∗ (tk c 0 ∗ tk c 1 ∗ tk c 2 ∗ tk c 3 ∗ tk c 4 ∗ tk c 5 ∗ tk c 6 ∗ tk c 7 ∗ tk c 8 ∗ tk c 9 ∗ tk c 10 ∗ tk c 11 ∗ tk c 12)
    ∗ (wIn c 5 ∗ wIn c 6 ∗ wIn c 7 ∗ wIn c 9 ∗ wIn c 11 ∗ wIn c 12)
    ∗ (xIn c 0 ∗ xIn c 1 ∗ xIn c 2 ∗ xIn c 3)
    ∗ pos c (rs (qc c))
    ∗ (pos c (ss 0) ∗ pos c (ss 1) ∗ pos c (ss 2) ∗ pos c (ss 3) ∗ pos c (ss 4) ∗ pos c (ss 5) ∗ pos c (ss 6) ∗ pos c (ss 7) ∗ pos c (ss 8) ∗ pos c (ss 9) ∗ pos c (ss 10) ∗ pos c (ss 11) ∗ pos c (ss 12)))

/-- What it ends with, the memory and the cells done with. -/
abbrev bodyOut : sProp 𝕄 :=
  iprop((lOut m c 0 ∗ lOut m c 1 ∗ lOut m c 2 ∗ lOut m c 3) ∗ semVal (bcell c) 0
    ∗ (nOut m c 0 ∗ nOut m c 1 ∗ nOut m c 2) ∗ (zOut m c 0 ∗ zOut m c 1 ∗ zOut m c 2)
    ∗ (bigSep Finset.univ (hold pM c fullShare (PV m c)) ∗ bigSep Finset.univ (fun j => fin c (rs j)))
    ∗ (fin c (ss 0) ∗ fin c (ss 1) ∗ fin c (ss 2) ∗ fin c (ss 3) ∗ fin c (ss 4) ∗ fin c (ss 5) ∗ fin c (ss 6) ∗ fin c (ss 7) ∗ fin c (ss 8) ∗ fin c (ss 9) ∗ fin c (ss 10) ∗ fin c (ss 11) ∗ fin c (ss 12)))

variable (g : Buf (Elt F) (gM.view.loc (c : Thread nD τ)))

set_option maxHeartbeats 8000000 in
theorem body_run {Φ : PUnit → sProp (MT nD τ sig Unit (Elt F) ℕ UU ℕ)} :
    iprop(ctx m κ ∗ bodyIn m c ∗ G c g ∗ O m c g 0 ∗ Owes c 0)
      ⊢ iprop(((bodyOut m c ∗ G c g ∗ O m c g 8 ∗ Owes c 24) -∗ Φ ⟨⟩) -∗ WP (app (cc0_body (F := F))) Φ) := by
  have ebody : app (cc0_body (F := F)) = app (cc0_body_skel (F := F)) := by rw [cc0_body_eq_skeleton]
  rw [ebody]
  unfold app cc0_body_skel bodyIn bodyOut
  iintro ⟨#Hc, ⟨⟨L0, L1, L2, L3⟩, ⟨G0, G1, G2, G3, G4, G5, G6, G7⟩, ⟨W0, W1, W2, W3⟩, ⟨Bc, Bp⟩, ⟨T0, T1, T2⟩, ⟨⟨Z0, Z0'⟩, ⟨Z1, Z1'⟩, ⟨Z2, Z2'⟩⟩,
    ⟨V0, V1, V2⟩, ⟨N0, N1, N2⟩, Hq, ⟨K0, K1, K2, K3, K4, K5, K6, K7, K8, K9, K10, K11, K12⟩, ⟨R5, R6, R7, R9, R11, R12⟩, ⟨X0, X1, X2, X3⟩, Pq,
    ⟨P0, P1, P2, P3, P4, P5, P6, P7, P8, P9, P10, P11, P12⟩⟩, HG, HO, Ho⟩ HΦ
  rw [wp_bind, k0_part21_eq_skeleton]
  unfold k0_part21_skel
  rw [wp_bind, k0_part1_eq_skeleton]
  iapply (part1 m κ c) $$ [L0 L1]
  · iframe # L0 L1
  iintro %r1 ⟨L0, L1⟩
  obtain ⟨v2, v5, v8, v10, v11, v30, c18⟩ := r1
  rw [wp_bind, k0_part2_eq_skeleton]
  iapply (part2 m κ c v2 v5 v8 v30 c18) $$ [L2 L3 G0 G1 Ho]
  · iframe # L2 L3 G0 G1 Ho
  iintro ⟨L2, L3, Ho⟩
  ihave W0 := (lW_of c 0) $$ [W0 L0]
  · iframe W0 L0
  ihave W1 := (lW_of c 1) $$ [W1 L1]
  · iframe W1 L1
  ihave W2 := (lW_of c 2) $$ [W2 L2]
  · iframe W2 L2
  ihave W3 := (lW_of c 3) $$ [W3 L3]
  · iframe W3 L3
  rw [wp_bind, k0_part3_eq_skeleton]
  iapply (part3 m κ c v2 v5 v8 v11) $$ [G2 G3 G4 Ho]
  · iframe # G2 G3 G4 Ho
  iintro %v92 Ho
  rw [wp_bind, k0_part4_eq_skeleton]
  iapply (part4 m κ c v2 v5 v8 v92) $$ [G5 G6 Ho]
  · iframe # G5 G6 Ho
  iintro %r4 Ho
  obtain ⟨v122, v124⟩ := r4
  rw [wp_bind, k0_part5_eq_skeleton]
  iapply (part5 m κ c v2 v5 v8 v122 v124) $$ [G7 Bc Bp W1 T0 Ho]
  · iframe # G7 Bc Bp W1 T0 Ho
  iintro %r5 ⟨Bv, Hbar, L1, T0, Ho⟩
  obtain ⟨v137, v150, v151⟩ := r5
  ihave H := (bar_out c) $$ Hbar
  icases H with ⟨U0, U1, U2, ⟨M0, M5, M6, M7, M9, M11, M12⟩, M2, ⟨M1, M8⟩, ⟨M3, M10⟩, M4⟩
  ihave K0 := (rest_of c 0) $$ [M0 K0]
  · iframe M0 K0
  ihave K1 := (rest_of c 1) $$ [M1 K1]
  · iframe M1 K1
  ihave K2 := (rest_of c 2) $$ [M2 K2]
  · iframe M2 K2
  ihave K3 := (rest_of c 3) $$ [M3 K3]
  · iframe M3 K3
  ihave K4 := (rest_of c 4) $$ [M4 K4]
  · iframe M4 K4
  ihave K5 := (rest_of c 5) $$ [M5 K5]
  · iframe M5 K5
  ihave K6 := (rest_of c 6) $$ [M6 K6]
  · iframe M6 K6
  ihave K7 := (rest_of c 7) $$ [M7 K7]
  · iframe M7 K7
  ihave K8 := (rest_of c 8) $$ [M8 K8]
  · iframe M8 K8
  ihave K9 := (rest_of c 9) $$ [M9 K9]
  · iframe M9 K9
  ihave K10 := (rest_of c 10) $$ [M10 K10]
  · iframe M10 K10
  ihave K11 := (rest_of c 11) $$ [M11 K11]
  · iframe M11 K11
  ihave K12 := (rest_of c 12) $$ [M12 K12]
  · iframe M12 K12
  ihave Z0 := (zIn_of m c 0) $$ [T0 U2 Z0 Z0']
  · iframe T0 U2 Z0 Z0'
  rw [wp_bind, k0_part6_eq_skeleton]
  iapply (part6 m κ c v2 v5 v8 v137 v150 v151) $$ [Z0 W2 T1 Ho]
  · iframe # Z0 W2 T1 Ho
  iintro %_ ⟨C0, L2, T1, Ho⟩
  ihave Z1 := (zIn_of m c 1) $$ [T1 U1 Z1 Z1']
  · iframe T1 U1 Z1 Z1'
  rw [wp_bind, k0_part7_eq_skeleton]
  iapply (part7 m κ c v2 v5 v8) $$ [Z1 W3 T2 Ho]
  · iframe # Z1 W3 T2 Ho
  iintro %_ ⟨C1, L3, T2, Ho⟩
  ihave Z2 := (zIn_of m c 2) $$ [T2 U0 Z2 Z2']
  · iframe T2 U0 Z2 Z2'
  rw [wp_bind, k0_part8_eq_skeleton]
  iapply (part8 m κ c v2 v5 v8) $$ [Z2 V0 V1 Ho]
  · iframe # Z2 V0 V1 Ho
  iintro %c16 ⟨C2, V0, V1, Ho⟩
  rw [wp_bind, k0_part9_eq_skeleton]
  iapply (part9 m κ c v2 v5 v8 v10 c16) $$ [V2 W0 V0 V1 Ho]
  · iframe # V2 W0 V0 V1 Ho
  iintro ⟨L0, V0, V1, V2, Ho⟩
  ihave N0 := (nW_of c 0) $$ [N0 C0]
  · iframe N0 C0
  ihave N1 := (nW_of c 1) $$ [N1 C1]
  · iframe N1 C1
  ihave N2 := (nW_of c 2) $$ [N2 C2]
  · iframe N2 C2
  rw [wp_bind, k0_part10_eq_skeleton]
  iapply (part10 m κ c v2 v5 v8 v11 (yV m c) rfl (R := iprop(sIn m c 2 ∗ sIn m c 3 ∗ sIn m c 4 ∗ hold pM c keep (PV m c) (qc c)
        ∗ ownL m c 0 ∗ ownL m c 1 ∗ ownL m c 2 ∗ ownL m c 3 ∗ ownL m c 4))) $$ [Hq K0 K1 K2 K3 K4 Ho]
  · iframe # Hq Ho
    iintro Hq
    iapply (own_lend m c)
    iframe
  iintro %r10 ⟨S0, S1, ⟨I2, I3, I4, Hq, O0, O1, O2, O3, O4⟩, Ho⟩
  obtain ⟨v295, v306, v307⟩ := r10
  rw [wp_bind, k0_part11_eq_skeleton]
  iapply (part11 m κ c v2 v5 v8 v307 v306) $$ [I2 I3 I4 Ho]
  · iframe # I2 I3 I4 Ho
  iintro %r11 ⟨S2, S3, S4, Ho⟩
  obtain ⟨v317, v328, v335, v336, v337, v338⟩ := r11
  rw [wp_bind, k0_part12_eq_skeleton]
  iapply (part12 m κ c v2 v5 v8 v11 v335 v336 v337 v338) $$ [R5 K5 R6 K6 R7 Ho]
  · iframe # R5 K5 R6 K6 R7 Ho
  iintro %r12 ⟨K5, S5, K6, S6, R7, Ho⟩
  obtain ⟨v339, v341, v342, v343, v344, v345, v346, v369⟩ := r12
  rw [wp_bind, k0_part13_eq_skeleton]
  iapply (part13 m κ c v2 v5 v8 v11 v339 v341 v342 v343 v344 v346 v369) $$ [R7 K7 K8 R9 K9 K10 R11 K11 Ho]
  · iframe # R7 K7 K8 R9 K9 K10 R11 K11 Ho
  iintro %r13 ⟨K7, S7, S8, K9, S9, S10, K11, S11, Ho⟩
  obtain ⟨v372, v384, v396, v397⟩ := r13
  rw [wp_bind, k0_part14_eq_skeleton]
  iapply (part14 m κ c v2 v5 v8 v11 v345 v396 v397) $$ [R12 K12 X0 Ho]
  · iframe # R12 K12 X0 Ho
  iintro %_ ⟨K12, S12, X0, Ho⟩
  rw [wp_bind, k0_part15_eq_skeleton]
  iapply (part15 m κ c v2 v5 v8 v11 (R := iprop((keptR m c 5 ∗ keptR m c 6 ∗ keptR' m c 7 8 ∗ keptR' m c 9 10 ∗ keptR m c 11 ∗ keptR m c 12)
        ∗ xR m c 0 ∗ xR m c 1 ∗ xR m c 2 ∗ xR m c 3))) $$ [X0 X1 X2 X3 Hq K5 K6 K7 K9 K11 K12 Ho]
  · iframe # X1 X2 X3 Ho
    iintro ⟨X1, X2, X3⟩
    iapply (gather m c)
    iframe
  iintro ⟨HY, ⟨A, B⟩, Ho⟩
  rw [wp_bind, k0_part16_eq_skeleton]
  iapply (part16 m c) $$ [HY]
  · iexact HY
  iintro HY
  rw [wp_bind, k0_part17_eq_skeleton]
  iapply (part17 m c g) $$ [HY HG HO]
  · iframe HY HG HO
  iintro ⟨HY, HG, HO⟩
  rw [wp_bind, k0_part18_eq_skeleton]
  iapply (part18 m c g) $$ [HY HG HO]
  · iframe HY HG HO
  iintro ⟨HY, HG, HO⟩
  rw [wp_bind, k0_part19_eq_skeleton]
  iapply (part19 m c g) $$ [HY HG HO]
  · iframe HY HG HO
  iintro %_ ⟨HY, HG, HO⟩
  ihave P0 := (dIn_of c 0) $$ [S0 P0]
  · iframe S0 P0
  ihave P1 := (dIn_of c 1) $$ [S1 P1]
  · iframe S1 P1
  ihave P2 := (dIn_of c 2) $$ [S2 P2]
  · iframe S2 P2
  ihave P3 := (dIn_of c 3) $$ [S3 P3]
  · iframe S3 P3
  ihave P4 := (dIn_of c 4) $$ [S4 P4]
  · iframe S4 P4
  ihave P5 := (dIn_of c 5) $$ [S5 P5]
  · iframe S5 P5
  ihave P6 := (dIn_of c 6) $$ [S6 P6]
  · iframe S6 P6
  ihave P7 := (dIn_of c 7) $$ [S7 P7]
  · iframe S7 P7
  ihave P8 := (dIn_of c 8) $$ [S8 P8]
  · iframe S8 P8
  ihave P9 := (dIn_of c 9) $$ [S9 P9]
  · iframe S9 P9
  ihave P10 := (dIn_of c 10) $$ [S10 P10]
  · iframe S10 P10
  ihave P11 := (dIn_of c 11) $$ [S11 P11]
  · iframe S11 P11
  ihave P12 := (dIn_of c 12) $$ [S12 P12]
  · iframe S12 P12
  rw [wp_bind, k0_part20_eq_skeleton]
  iapply (part20 m κ c v295) $$ [N0 N1 N2 P0 Ho]
  · iframe # N0 N1 N2 P0 Ho
  iintro %_ ⟨N0, N1, N2, P0, Ho⟩
  simp -zetaHave -proj only [Prog.lift, Prog.bind_op, Prog.bind_ret, Prog.pure_eq_ret, guarded_of]
  extract_lets
  iapply (drain m κ c 1 (cond19_iff c) (fun _ => rfl) (fun _ hk => slot_at _ (off43_eq c hk) _)) $$ [P1 Ho]
  · iframe # P1 Ho
  iintro ⟨P1, Ho⟩
  iapply (drain m κ c 2 (cond20_iff c) (fun _ => rfl) (fun _ hk => slot_at _ (off44_eq c hk) _)) $$ [P2 Ho]
  · iframe # P2 Ho
  iintro ⟨P2, Ho⟩
  iapply (drain m κ c 3 (cond21_iff c) (fun _ => rfl) (fun _ hk => slot_at _ (off45_eq c hk) _)) $$ [P3 Ho]
  · iframe # P3 Ho
  iintro ⟨P3, Ho⟩
  iapply (drain m κ c 4 (cond22_iff c) (fun _ => rfl) (fun _ hk => slot_at _ (off46_eq c hk) _)) $$ [P4 Ho]
  · iframe # P4 Ho
  iintro ⟨P4, Ho⟩
  iapply (drain m κ c 5 (cond23_iff c) (fun _ => rfl) (fun _ hk => slot_at _ (off47_eq c hk) _)) $$ [P5 Ho]
  · iframe # P5 Ho
  iintro ⟨P5, Ho⟩
  iapply (drain m κ c 6 (cond24_iff c) (fun _ => rfl) (fun _ hk => slot_at _ (off48_eq c hk) _)) $$ [P6 Ho]
  · iframe # P6 Ho
  iintro ⟨P6, Ho⟩
  iapply (drain m κ c 7 (cond25_iff c) (fun _ => rfl) (fun _ hk => slot_at _ (off49_eq c hk) _)) $$ [P7 Ho]
  · iframe # P7 Ho
  iintro ⟨P7, Ho⟩
  iapply (drain m κ c 8 (cond26_iff c) (fun _ => rfl) (fun _ hk => slot_at _ (off50_eq c hk) _)) $$ [P8 Ho]
  · iframe # P8 Ho
  iintro ⟨P8, Ho⟩
  iapply (ret_of c _)
  extract_lets
  iapply (drain m κ c 9 (cond27_iff c) (fun _ => rfl) (fun _ hk => slot_at _ (off51_eq c hk) _)) $$ [P9 Ho]
  · iframe # P9 Ho
  iintro ⟨P9, Ho⟩
  iapply (drain m κ c 10 (cond28_iff c) (fun _ => rfl) (fun _ hk => slot_at _ (off52_eq c hk) _)) $$ [P10 Ho]
  · iframe # P10 Ho
  iintro ⟨P10, Ho⟩
  iapply (drain m κ c 11 (cond29_iff c) (fun _ => rfl) (fun _ hk => slot_at _ (off53_eq c hk) _)) $$ [P11 Ho]
  · iframe # P11 Ho
  iintro ⟨P11, Ho⟩
  iapply (drain m κ c 12 (cond30_iff c) (fun _ => rfl) (fun _ hk => slot_at _ (off54_eq c hk) _)) $$ [P12 Ho]
  · iframe # P12 Ho
  iintro ⟨P12, Ho⟩
  imod (close_none m κ c (rs (qc c)) (has_own c)) $$ [Pq] with Fq
  · iframe # Pq
  unfold drained
  icases P0 with ⟨F0, P0⟩
  icases P1 with ⟨F1, P1⟩
  icases P2 with ⟨F2, P2⟩
  icases P3 with ⟨F3, P3⟩
  icases P4 with ⟨F4, P4⟩
  icases P5 with ⟨F5, P5⟩
  icases P6 with ⟨F6, P6⟩
  icases P7 with ⟨F7, P7⟩
  icases P8 with ⟨F8, P8⟩
  icases P9 with ⟨F9, P9⟩
  icases P10 with ⟨F10, P10⟩
  icases P11 with ⟨F11, P11⟩
  icases P12 with ⟨F12, P12⟩
  ihave H := (ungather m c) $$ [HY A B O0 O1 O2 O3 O4 Fq P0 P1 P2 P3 P4 P5 P6 P7 P8 P9 P10 P11 P12]
  · iframe
  iapply (ret_of c _)
  iapply HΦ
  iframe
end Parts
end Cert.Proof
end
-- ==== Proof.Fund.lean ====
module

public import proofs.«01_k».proof.Proof.Run

@[expose] public section

/-!
# The launch's ghost resources

Each device's positions and tokens as they are made, and the tokens dealt to the devices that make the landings.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ)

/-! ## The cells of a device, by use -/

/-- The uses of a device's copy cells. -/
abbrev Use : Type := Fin 4 ⊕ (Fin 3 ⊕ (Fin 3 ⊕ (Fin 13 ⊕ Fin 8)))
def useOf : Use → Fin 31 := Sum.elim nl (Sum.elim ns (Sum.elim nr (Sum.elim ss rs)))
theorem useOf_bij : Function.Bijective useOf := by decide +kernel

/-- Things for the copy cells: the loads', the first phase's sends' and receives', the second phase's. -/
theorem groups (Ψ : Fin 31 → sProp (MT nD τ sig Unit (Elt F) ℕ UU ℕ)) :
    bigSep Finset.univ Ψ = iprop((bigSep Finset.univ fun k : Fin 4 => Ψ (nl k)) ∗ (bigSep Finset.univ fun o : Fin 3 => Ψ (ns o))
      ∗ (bigSep Finset.univ fun s : Fin 3 => Ψ (nr s)) ∗ (bigSep Finset.univ fun k : Fin 13 => Ψ (ss k)) ∗ bigSep Finset.univ fun j : Fin 8 => Ψ (rs j)) := by
  rw [bigSep_univ_equiv (Equiv.ofBijective useOf useOf_bij) Ψ, bigSep_univ_sum, bigSep_univ_sum, bigSep_univ_sum, bigSep_univ_sum]
  rfl

/-- Things for the cells of a device: its copy cells', its barrier cell's. -/
theorem cells_split (c : Dev nD) (Ψ : GSem nD τ sig → sProp (MT nD τ sig Unit (Elt F) ℕ UU ℕ)) :
    (bigSep Finset.univ fun n : Fin 32 => Ψ (kcell (c, n))) = iprop(Ψ (bcell c) ∗ bigSep Finset.univ fun n : Fin 31 => Ψ (dcell c n)) := by
  rw [Fin.univ_castSuccEmb, Finset.cons_eq_insert, bigSep_insert (fun h => by obtain ⟨x, -, hx⟩ := Finset.mem_map.mp h; exact absurd hx (Fin.castSucc_lt_last x).ne), bigSep_map]
  have e : ∀ n : Fin 31, kcell (c, n.castSucc) = dcell c n := fun n => by unfold kcell; rw [ksem_own]
  rw [bigSep_congr fun n _ => show Ψ (kcell (c, Fin.castSuccEmb n)) = Ψ (dcell c n) from congrArg Ψ (e n)]
  rfl

theorem own_inj : Function.Injective own := by decide +kernel
theorem ksem_inj : Function.Injective ksem := by
  intro a b h
  rcases Fin.eq_castSucc_or_eq_last a with ⟨x, rfl⟩ | rfl <;> rcases Fin.eq_castSucc_or_eq_last b with ⟨y, rfl⟩ | rfl
  · rw [ksem_own, ksem_own] at h; rw [own_inj (SemLoc.dma.inj h)]
  · rw [ksem_own] at h; exact absurd h (by intro h; cases h)
  · rw [ksem_own] at h; exact absurd h (by intro h; cases h)
  · rfl
theorem kcell_inj : Function.Injective kcell := by
  rintro ⟨c, k⟩ ⟨c', k'⟩ h
  have h1 : c = c' := congrArg (fun g : GSem nD τ sig => g.1.1) h
  have h2 : k = k' := ksem_inj (congrArg Prod.snd h)
  rw [h1, h2]
def kCells : Finset (GSem nD τ sig) := Finset.univ.map ⟨kcell, kcell_inj⟩

/-- A device's tokens as they are made: one for each copy cell, eight for the barrier's. -/
abbrev tokOf (x : Dev nD × (Fin 31 ⊕ Fin 8)) : GSem nD τ sig × ℕ × Fin 8 :=
  match x.2 with
  | .inl n => (dcell x.1 n, 0, 0)
  | .inr d => (bcell x.1, 0, d)
theorem tokOf_inj : Function.Injective tokOf := by
  rintro ⟨c, n | d⟩ ⟨c', n' | d'⟩ h
  · have h1 : c = c' := congrArg (fun g : GSem nD τ sig × ℕ × Fin 8 => g.1.1.1) h
    have h2 : n = n' := own_inj (SemLoc.dma.inj (congrArg (fun g : GSem nD τ sig × ℕ × Fin 8 => g.1.2) h))
    rw [h1, h2]
  · exact absurd (congrArg (fun g : GSem nD τ sig × ℕ × Fin 8 => g.1.2) h) (by intro h; cases h)
  · exact absurd (congrArg (fun g : GSem nD τ sig × ℕ × Fin 8 => g.1.2) h) (by intro h; cases h)
  · have h1 : c = c' := congrArg (fun g : GSem nD τ sig × ℕ × Fin 8 => g.1.1.1) h
    have h2 : d = d' := congrArg (fun g : GSem nD τ sig × ℕ × Fin 8 => g.2.2) h
    rw [h1, h2]
def kToks : Finset (GSem nD τ sig × ℕ × Fin 8) := Finset.univ.map ⟨tokOf, tokOf_inj⟩

def u₀ : UU := (initOf (Pipeline.cells cfgs cellOf_inj) (Pipeline.launchToks cfgs cellOf_inj), initOf kCells kToks)

def toks (c : Dev nD) : sProp 𝕄 :=
  iprop((bigSep Finset.univ fun n : Fin 31 => tok c n) ∗ bigSep Finset.univ fun d : Fin 8 => dutyTok ER (bcell c) 0 d)

/-- What the launch deals device `c`. -/
def Gh (c : Dev nD) : sProp 𝕄 :=
  iprop((bigSep Finset.univ fun n : Fin 32 => roundState ER (Rd m) (kcell (c, n)) 0)
    ∗ (bigSep Finset.univ fun n : Fin 32 => atPos ER (kcell (c, n)) 0 ∅ 0) ∗ (bigSep Finset.univ fun n : Fin 32 => reached ER (kcell (c, n)) 0) ∗ toks c)

theorem fund_k : BI.own (ER (initOf kCells kToks)) ⊢ (|==> bigSep Finset.univ (Gh m) : sProp 𝕄) := by
  have hX (Φ : GSem nD τ sig → sProp 𝕄) : bigSep kCells Φ = bigSep Finset.univ fun c : Dev nD => bigSep Finset.univ fun k : Fin 32 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum]; rfl
  iintro HX
  imod (Rounds.fund ER (Rd m) kCells kToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gh; simp only [bigSep_sep']
  iframe

/-! ## The tokens, dealt -/

/-- Signals and duties: who pays what. -/
def bE : Dev nD × Fin 8 ≃ Dev nD × Fin 8 where
  toFun x := (bt x.1 x.2, bd x.1 x.2)
  invFun x := bsrc x.1 x.2
  left_inv x := bsrc_of x.1 x.2
  right_inv x := Prod.ext (of_bsrc x.1 x.2).1 (of_bsrc x.1 x.2).2
/-- The first phase's copies and the slots they fill. -/
def zE : Dev nD × Fin 3 ≃ Dev nD × Fin 3 :=
  Function.Involutive.toPerm (fun x => (zp x.1 x.2, x.2.rev)) fun x => Prod.ext (zp_rev x.1 x.2) (Fin.rev_rev x.2)
/-- The second phase's copies that are made, and the blocks they fill. -/
def pE : {x : Dev nD × Fin 13 // on x.1 x.2 = true} ↪ Dev nD × Fin 8 where
  toFun x := (tg x.1.1 x.1.2, sl x.1.1 x.1.2)
  inj' := by
    rintro ⟨⟨c, k⟩, h⟩ ⟨⟨c', k'⟩, h'⟩ e
    have e1 : tg c k = tg c' k' := congrArg Prod.fst e
    have e2 : sl c k = sl c' k' := congrArg Prod.snd e
    have := (src_of c k h).2
    rw [e1, e2, (src_of c' k' h').2] at this
    exact Subtype.ext this.symm

theorem move_b (Ψ : Dev nD → Fin 8 → sProp (MT nD τ sig Unit (Elt F) ℕ UU ℕ)) :
    (bigSep Finset.univ fun c => bigSep Finset.univ fun d => Ψ c d) = bigSep Finset.univ fun c => bigSep Finset.univ fun k => Ψ (bt c k) (bd c k) := by
  rw [← bigSep_univ_prod (fun x : Dev nD × Fin 8 => Ψ x.1 x.2), bigSep_univ_equiv bE, bigSep_univ_prod]; rfl
theorem move_z (Ψ : Dev nD → Fin 3 → sProp (MT nD τ sig Unit (Elt F) ℕ UU ℕ)) :
    (bigSep Finset.univ fun c => bigSep Finset.univ fun d => Ψ c d) = bigSep Finset.univ fun c => bigSep Finset.univ fun o => Ψ (zp c o) o.rev := by
  rw [← bigSep_univ_prod (fun x : Dev nD × Fin 3 => Ψ x.1 x.2), bigSep_univ_equiv zE, bigSep_univ_prod]; rfl
theorem move_p (Ψ : Dev nD → Fin 8 → sProp (MT nD τ sig Unit (Elt F) ℕ UU ℕ)) :
    (bigSep Finset.univ fun c => bigSep Finset.univ fun j => Ψ c j)
      ⊢ bigSep Finset.univ fun c => bigSep Finset.univ fun k => cnd (on c k) (Ψ (tg c k) (sl c k)) := by
  rw [← bigSep_univ_prod (fun x : Dev nD × Fin 8 => Ψ x.1 x.2), ← bigSep_univ_prod (fun x : Dev nD × Fin 13 => cnd (on x.1 x.2) (Ψ (tg x.1 x.2) (sl x.1 x.2)))]
  refine BIBase.Entails.trans (bigSep_subset (Finset.subset_univ (Finset.univ.map pE))) (Entails.of_eq ?_)
  rw [bigSep_map]
  refine (bigSep_subtype (fun x : Dev nD × Fin 13 => on x.1 x.2 = true) (fun x => Ψ (tg x.1 x.2) (sl x.1 x.2))).trans ?_
  rw [bigSep_filter]
  rfl

/-- What stays with device `c`: its positions, and the tokens of the landings it makes. -/
def lin (c : Dev nD) : sProp 𝕄 :=
  iprop((atPos ER (bcell c) 0 ∅ 0 ∗ bigSep Finset.univ fun n : Fin 31 => pos c n)
    ∗ (bigSep Finset.univ fun k : Fin 4 => tok c (nl k)) ∗ (bigSep Finset.univ fun o : Fin 3 => tok c (ns o))
    ∗ (bigSep Finset.univ fun o : Fin 3 => tok (zp c o) (nr o.rev)) ∗ (bigSep Finset.univ fun k : Fin 13 => tok c (ss k))
    ∗ (bigSep Finset.univ fun k : Fin 13 => cnd (on c k) (tok (tg c k) (rs (sl c k))))
    ∗ bigSep Finset.univ fun k : Fin 8 => dutyTok ER (bcell (bt c k)) 0 (bd c k))

theorem toks_around :
    iprop((bigSep Finset.univ fun c : Dev nD => bigSep Finset.univ fun n : Fin 32 => atPos ER (kcell (c, n)) 0 ∅ 0) ∗ bigSep Finset.univ fun c : Dev nD => (toks c : sProp 𝕄))
      ⊢ bigSep Finset.univ fun c : Dev nD => lin c := by
  unfold toks lin
  simp only [groups (fun n => tok _ n), bigSep_sep']
  rw [bigSep_congr fun (c : Dev nD) _ => cells_split c fun g => (atPos ER g 0 ∅ 0 : sProp 𝕄), bigSep_sep',
    move_b fun c d => dutyTok ER (bcell c) 0 d, move_z fun c s => tok c (nr s)]
  iintro ⟨⟨Hb, Hp⟩, ⟨H1, H2, H3, H4, H5⟩, H6⟩
  ihave H5 := (move_p fun c j => tok c (rs j)) $$ H5
  unfold pos
  iframe

/-- The records every device has of every cell. -/
def recs (κ : Dev nD × Fin 32 → ℕ) : sProp 𝕄 :=
  iprop(□ bigSep Finset.univ (fun ck : Dev nD × Fin 32 => iprop(cellInv ER (Rd m) (κ ck) (kcell ck) ∗ reached ER (kcell ck) 0)))
instance recs_persistent (κ : Dev nD × Fin 32 → ℕ) : Persistent (recs (F := F) m κ) := by unfold recs; infer_instance

/-- What the global step makes of it. -/
def Gh' (c : Dev nD) : sProp 𝕄 := iprop(∃ κ, recs m κ ∗ lin c)

abbrev osem (n : Fin 31) : SemLoc sig := .dma (own n)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSep Finset.univ fun n : Fin 31 => fin c n := rfl
theorem unscopedSems0_eq (c : Dev nD) : (unscopedSems0 c : sProp 𝕄) = semVal (bcell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ Gh m c)
      ⊢ |={Set.univ}=> iprop((bigSep Finset.univ fun k : Fin 32 => iprop(∃ κ : ℕ, cellInv ER (Rd m) κ (kcell (c, k))))
          ∗ (bigSep Finset.univ fun n : Fin 32 => atPos ER (kcell (c, n)) 0 ∅ 0) ∗ (bigSep Finset.univ fun n : Fin 32 => reached ER (kcell (c, n)) 0) ∗ toks c) := by
  unfold Gh
  rw [ownSems0_eq, unscopedSems0_eq]
  iintro ⟨Hos, Hus, Hst, Hat, Hr, Htok⟩
  ihave Hv := (Entails.of_eq (cells_split (F := F) c fun g => semVal g 0).symm) $$ [Hos Hus]
  · unfold fin
    iframe Hos Hus
  imod (show iprop((bigSep Finset.univ fun k : Fin 32 => semVal (kcell (c, k)) 0) ∗ bigSep Finset.univ fun k : Fin 32 => roundState ER (Rd m) (kcell (c, k)) 0)
      ⊢ (|={Set.univ}=> bigSep Finset.univ fun k : Fin 32 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe Hv Hst
  imodintro
  iframe

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 32 => iprop(∃ κ : ℕ, cellInv ER (Rd m) κ (kcell (c, k))))
          ∗ (bigSep Finset.univ fun n : Fin 32 => atPos ER (kcell (c, n)) 0 ∅ 0) ∗ (bigSep Finset.univ fun n : Fin 32 => reached ER (kcell (c, n)) 0) ∗ toks c) : sProp 𝕄)
      ⊢ bigSep Finset.univ (Gh' m) := by
  rw [bigSep_sep', bigSep_sep', bigSep_sep', ← bigSep_univ_prod (fun ck : Dev nD × Fin 32 => iprop(∃ κ : ℕ, cellInv ER (Rd m) κ (kcell ck))),
    ← bigSep_univ_prod (fun ck : Dev nD × Fin 32 => (reached ER (kcell ck) 0 : sProp 𝕄))]
  iintro ⟨HI, Hat, #HR, Htok⟩
  ihave HK := (BI.bigSep_exists_pi Finset.univ (fun (ck : Dev nD × Fin 32) (κ : ℕ) => (cellInv ER (Rd m) κ (kcell ck) : sProp 𝕄))) $$ HI
  icases HK with ⟨%κ, #HI⟩
  ihave Hl := (toks_around (F := F)) $$ [Hat Htok]
  · iframe Hat Htok
  iapply (with_persistent (R := recs m κ) fun c _ => show iprop(recs m κ ∗ lin c) ⊢ Gh' m c from by
    unfold Gh'; iintro H; iexists κ; iexact H)
  isplitr
  · unfold recs
    imodintro
    rw [bigSep_sep']
    isplitr; · iexact HI
    iexact HR
  · iexact Hl

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ Gh m c) : sProp 𝕄)
    ⊢ |={Set.univ}=> bigSep Finset.univ (Gh' m) :=
  ((bigSep_mono fun c _ => core_alloc m c).trans (bigSep_fupd _ _)).trans (BI.fupd_mono (regroup m))

end Cert.Proof
end
-- ==== Proof.Credit.lean ====
module

public import proofs.«01_k».proof.Proof.Fund

@[expose] public section

/-!
# The launch's credit

What the devices owe at launch, summed over them, is what each waits for.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

/-- What device `c` waits for others to pay. -/
def due (c : Dev nD) : CellTallies nD τ sig Unit :=
  tallyAt (bcell c) () 8 + ((∑ s : Fin 3, tallyAt (dcell c (nr s)) () NP) + ∑ j : Fin 8, tallyAt (dcell c (rs j)) () (if j ≠ qc c then NP else 0))

theorem Ow_zero (c : Dev nD) : Ow c 0 = (∑ k : Fin 8, tallyAt (bcell (bt c k)) () 1)
    + ((∑ o : Fin 3, tallyAt (dcell (zp c o) (nr o.rev)) () NP) + ∑ k : Fin 13, tallyAt (dcell (tg c k) (rs (sl c k))) () (if on c k then NP else 0)) := by
  unfold Ow
  rw [← Finset.range_eq_Ico, show (24 : ℕ) = 8 + (3 + 13) from rfl, Finset.sum_range_add, Finset.sum_range_add, Finset.sum_range, Finset.sum_range, Finset.sum_range]
  refine congrArg₂ _ (Finset.sum_congr rfl fun k _ => payT_bar c k) (congrArg₂ _ (Finset.sum_congr rfl fun o _ => payT_z c o) (Finset.sum_congr rfl fun k _ => ?_))
  rw [← payT_p c k, show 8 + (3 + k.val) = 11 + k.val by omega]

theorem sum_bar : (∑ d : Dev nD, ∑ k : Fin 8, (tallyAt (bcell (bt d k)) () 1 : CellTallies nD τ sig Unit)) = ∑ c : Dev nD, tallyAt (bcell c) () 8 := by
  rw [← Fintype.sum_prod_type' (f := fun d k => (tallyAt (bcell (bt d k)) () 1 : CellTallies nD τ sig Unit))]
  refine (Equiv.sum_comp bE fun x : Dev nD × Fin 8 => (tallyAt (bcell x.1) () 1 : CellTallies nD τ sig Unit)).trans ?_
  rw [Fintype.sum_prod_type]
  refine Finset.sum_congr rfl fun c _ => ?_
  simp only [Fin.sum_univ_eight, tallyAt_add]
theorem sum_z : (∑ d : Dev nD, ∑ o : Fin 3, (tallyAt (dcell (zp d o) (nr o.rev)) () NP : CellTallies nD τ sig Unit))
    = ∑ c : Dev nD, ∑ s : Fin 3, tallyAt (dcell c (nr s)) () NP := by
  rw [← Fintype.sum_prod_type' (f := fun d o => (tallyAt (dcell (zp d o) (nr o.rev)) () NP : CellTallies nD τ sig Unit))]
  refine (Equiv.sum_comp zE fun x : Dev nD × Fin 3 => (tallyAt (dcell x.1 (nr x.2)) () NP : CellTallies nD τ sig Unit)).trans ?_
  rw [Fintype.sum_prod_type]
theorem tally_if {p : Prop} [Decidable p] (g : GSem nD τ sig) (n : ℕ) :
    (tallyAt g () (if p then n else 0) : CellTallies nD τ sig Unit) = if p then tallyAt g () n else 0 := by
  split
  · rfl
  · exact tallyAt_zero _ _
theorem sum_p : (∑ d : Dev nD, ∑ k : Fin 13, (tallyAt (dcell (tg d k) (rs (sl d k))) () (if on d k then NP else 0) : CellTallies nD τ sig Unit))
    = ∑ c : Dev nD, ∑ j : Fin 8, tallyAt (dcell c (rs j)) () (if j ≠ qc c then NP else 0) := by
  simp only [tally_if]
  rw [← Fintype.sum_prod_type' (f := fun d k => (if on d k then tallyAt (dcell (tg d k) (rs (sl d k))) () NP else 0 : CellTallies nD τ sig Unit)),
    ← Fintype.sum_prod_type' (f := fun c j => (if j ≠ qc c then tallyAt (dcell c (rs j)) () NP else 0 : CellTallies nD τ sig Unit)),
    ← Finset.sum_filter (fun x : Dev nD × Fin 13 => on x.1 x.2 = true), ← Finset.sum_filter (fun x : Dev nD × Fin 8 => x.2 ≠ qc x.1)]
  refine Finset.sum_nbij' (fun x => (tg x.1 x.2, sl x.1 x.2)) (fun x => src x.1 x.2) ?_ ?_ ?_ ?_ ?_
  · intro x hx
    exact Finset.mem_filter.mpr ⟨Finset.mem_univ _, (src_of x.1 x.2 (Finset.mem_filter.mp hx).2).1⟩
  · intro x hx
    exact Finset.mem_filter.mpr ⟨Finset.mem_univ _, (src_on x.1 x.2 (Finset.mem_filter.mp hx).2).1⟩
  · intro x hx
    exact (src_of x.1 x.2 (Finset.mem_filter.mp hx).2).2
  · intro x hx
    have h := src_on x.1 x.2 (Finset.mem_filter.mp hx).2
    exact Prod.ext h.2.1 h.2.2
  · intro x hx
    rfl

theorem due_sum : (∑ d : Dev nD, Ow d 0) = ∑ d : Dev nD, due d := by
  unfold due
  simp only [Ow_zero, Finset.sum_add_distrib]
  rw [sum_bar, sum_z, sum_p]

theorem due_own (d : Dev nD) (g : GSem nD τ sig) (h : due d g ≠ 0) : g.1 = (d.tc : Thread nD τ) := by
  by_contra hn
  refine h ?_
  have hne : ∀ (sm : SemLoc sig) (n : ℕ), (tallyAt ((d : Thread nD τ), sm) () n : CellTallies nD τ sig Unit) g = 0 := fun sm n =>
    tallyAt_ne_cell (fun e => hn (by rw [e])) () n
  unfold due
  rw [Pi.add_apply, Pi.add_apply, Finset.sum_apply, Finset.sum_apply, hne,
    Finset.sum_eq_zero (fun s _ => hne _ _), Finset.sum_eq_zero (fun s _ => hne _ _), add_zero, add_zero]

/-- Device `c`'s credit at launch. -/
def creds (c : Dev nD) : sProp 𝕄 :=
  iprop(cred (tallyAt (bcell c) () 8) ∗ (bigSep Finset.univ fun s : Fin 3 => crd c (nr s))
    ∗ bigSep Finset.univ fun j : Fin 8 => cnd (decide (j ≠ qc c)) (crd c (rs j)))

theorem cred_sum_eq (a b : CellTallies nD τ sig Unit) : (cred (a + b) : sProp 𝕄) = iprop(cred a ∗ cred b) :=
  (cred_add a b).1.antisymm (cred_add a b).2

theorem crd_of (c : Dev nD) (j : Fin 8) :
    (cred (tallyAt (dcell c (rs j)) () (if j ≠ qc c then NP else 0)) : sProp 𝕄) ⊢ cnd (decide (j ≠ qc c)) (crd c (rs j)) := by
  by_cases h : j ≠ qc c
  · rw [cnd_true (decide_eq_true h), if_pos h]; exact .rfl
  · rw [cnd_false (decide_eq_false h)]
    iintro -
    iempintro

theorem creds_intro (c : Dev nD) : (Pipeline.launchCred (fun c => Ow c 0) c : sProp 𝕄) ⊢ creds c := by
  rw [Pipeline.launchCred_of_sum (fun c => Ow c 0) due due_sum due_own c]
  unfold due creds
  rw [cred_sum_eq, cred_sum_eq, Pipeline.cred_finsetSum, Pipeline.cred_finsetSum]
  exact sep_mono .rfl (sep_mono .rfl (bigSep_mono fun j _ => crd_of c j))

end Cert.Proof
end
-- ==== Proof.Ends.lean ====
module

public import proofs.«01_k».proof.Proof.Credit

@[expose] public section

/-!
# The two ends of the body

What a device starts with, as its body takes it; what it ends with, as the launch takes it back.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ)

theorem fin3 (Ψ : Fin 3 → sProp (MT nD τ sig Unit (Elt F) ℕ UU ℕ)) : bigSep Finset.univ Ψ = iprop(Ψ 0 ∗ Ψ 1 ∗ Ψ 2) :=
  bigSep_univ_eq_bigSepL [0, 1, 2] (by decide) (by decide) Ψ
theorem fin4 (Ψ : Fin 4 → sProp (MT nD τ sig Unit (Elt F) ℕ UU ℕ)) : bigSep Finset.univ Ψ = iprop(Ψ 0 ∗ Ψ 1 ∗ Ψ 2 ∗ Ψ 3) :=
  bigSep_univ_eq_bigSepL [0, 1, 2, 3] (by decide) (by decide) Ψ
theorem fin8 (Ψ : Fin 8 → sProp (MT nD τ sig Unit (Elt F) ℕ UU ℕ)) :
    bigSep Finset.univ Ψ = iprop(Ψ 0 ∗ Ψ 1 ∗ Ψ 2 ∗ Ψ 3 ∗ Ψ 4 ∗ Ψ 5 ∗ Ψ 6 ∗ Ψ 7) :=
  bigSep_univ_eq_bigSepL [0, 1, 2, 3, 4, 5, 6, 7] (by decide) (by decide) Ψ
theorem fin13 (Ψ : Fin 13 → sProp (MT nD τ sig Unit (Elt F) ℕ UU ℕ)) :
    bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12) :=
  bigSep_univ_eq_bigSepL [0, 1, 2, 3, 4, 5, 6, 7, 8, 9, 10, 11, 12] (by decide) (by decide) Ψ

variable (c : Dev nD)

/-! ## The argument, lent to the four loads -/

def aWhole : sProp 𝕄 := iprop(aM.view.loc (c : Thread nD τ) ↦{fullShare} X m c)
/-- What stays of a lent share. -/
def aLeft (k : Fin 4) : sProp 𝕄 := iprop(aM.view.loc (c : Thread nD τ) ↦[Finset.univ \ (lM c k).view.set]{qa k} X m c)

theorem a_one (k : Fin 4) : (iprop(aM.view.loc (c : Thread nD τ) ↦{qa k} X m c) : sProp 𝕄) ⊣⊢ iprop(aHold m c k ∗ aLeft m c k) := by
  unfold aHold aLeft
  exact pointsTo_split_subset (Finset.subset_univ _)
theorem a_split : (aWhole m c : sProp 𝕄) ⊣⊢ iprop((aHold m c 0 ∗ aLeft m c 0) ∗ (aHold m c 1 ∗ aLeft m c 1) ∗ (aHold m c 2 ∗ aLeft m c 2) ∗ (aHold m c 3 ∗ aLeft m c 3)) := by
  have h : ∀ q : PosShare TreeShare, (iprop(aM.view.loc (c : Thread nD τ) ↦{q} X m c) : sProp 𝕄)
      ⊣⊢ iprop((aM.view.loc (c : Thread nD τ) ↦{q.left} X m c) ∗ aM.view.loc (c : Thread nD τ) ↦{q.right} X m c) :=
    fun q => pointsTo_share (PosShare.mem_left_op_right q)
  exact (h fullShare).trans (sep_congr (a_one m c 0) ((h _).trans (sep_congr (a_one m c 1) ((h _).trans (sep_congr (a_one m c 2) (a_one m c 3))))))

/-! ## In -/

theorem tk_of (k : Fin 13) : iprop(tok c (ss k) ∗ cnd (on c k) (tok (tg c k) (rs (sl c k)))) ⊢ (tk c k : sProp 𝕄) := by
  unfold tk
  by_cases h : on c k = true
  · rw [cnd_true h, cnd_true h]
  · have h' : on c k = false := by simpa using h
    rw [cnd_false h', cnd_false h']
    iintro -
    iempintro
theorem rs_str : ∀ (c : Dev nD) (k : Fin 13), k ∈ str → on c k = true → sl c k ≠ qc c := by decide +kernel
theorem rs_ox : ∀ (c : Dev nD) (i : Fin 4), ox c i ≠ qc c := by decide +kernel
theorem wIn_of (k : Fin 13) (hk : k ∈ str) : iprop(cnd (on c k) (pos c (rs (sl c k))) ∗ cnd (on c k) (cnd (decide (sl c k ≠ qc c)) (crd c (rs (sl c k))))) ⊢ (wIn c k : sProp 𝕄) := by
  unfold wIn
  rw [cnd_sep]
  by_cases h : on c k = true
  · rw [cnd_true h, cnd_true h, cnd_true (decide_eq_true (rs_str c k hk h))]
  · have h' : on c k = false := by simpa using h
    rw [cnd_false h', cnd_false h']
theorem xIn_of (i : Fin 4) : iprop(pos c (rs (ox c i)) ∗ cnd (decide (ox c i ≠ qc c)) (crd c (rs (ox c i)))) ⊢ (xIn c i : sProp 𝕄) := by
  unfold xIn
  rw [cnd_true (decide_eq_true (rs_ox c i))]
theorem rs_in :
    iprop((bigSep Finset.univ fun j : Fin 8 => pos c (rs j)) ∗ bigSep Finset.univ fun j : Fin 8 => cnd (decide (j ≠ qc c)) (crd c (rs j)))
      ⊢ (iprop((wIn c 5 ∗ wIn c 6 ∗ wIn c 7 ∗ wIn c 9 ∗ wIn c 11 ∗ wIn c 12) ∗ (xIn c 0 ∗ xIn c 1 ∗ xIn c 2 ∗ xIn c 3) ∗ pos c (rs (qc c))) : sProp 𝕄) := by
  rw [deal c (fun j => pos c (rs j)), deal c (fun j => cnd (decide (j ≠ qc c)) (crd c (rs j)))]
  iintro ⟨⟨P, ⟨P5, P6, P7, P9, P11, P12⟩, Q0, Q1, Q2, Q3⟩, ⟨-, ⟨C5, C6, C7, C9, C11, C12⟩, D0, D1, D2, D3⟩⟩
  ihave W5 := (wIn_of c 5 (by decide)) $$ [P5 C5]
  · iframe P5 C5
  ihave W6 := (wIn_of c 6 (by decide)) $$ [P6 C6]
  · iframe P6 C6
  ihave W7 := (wIn_of c 7 (by decide)) $$ [P7 C7]
  · iframe P7 C7
  ihave W9 := (wIn_of c 9 (by decide)) $$ [P9 C9]
  · iframe P9 C9
  ihave W11 := (wIn_of c 11 (by decide)) $$ [P11 C11]
  · iframe P11 C11
  ihave W12 := (wIn_of c 12 (by decide)) $$ [P12 C12]
  · iframe P12 C12
  ihave X0 := (xIn_of c 0) $$ [Q0 D0]
  · iframe Q0 D0
  ihave X1 := (xIn_of c 1) $$ [Q1 D1]
  · iframe Q1 D1
  ihave X2 := (xIn_of c 2) $$ [Q2 D2]
  · iframe Q2 D2
  ihave X3 := (xIn_of c 3) $$ [Q3 D3]
  · iframe Q3 D3
  iframe
theorem tk_in :
    iprop((bigSep Finset.univ fun k : Fin 13 => tok c (ss k)) ∗ bigSep Finset.univ fun k : Fin 13 => cnd (on c k) (tok (tg c k) (rs (sl c k))))
      ⊢ (bigSep Finset.univ (tk c) : sProp 𝕄) := by
  rw [← bigSep_sep']; exact bigSep_mono fun k _ => tk_of c k
theorem z_in :
    iprop((bigSep Finset.univ fun s : Fin 3 => pos c (nr s)) ∗ bigSep Finset.univ fun s : Fin 3 => crd c (nr s)) ⊢ (bigSep Finset.univ (zW c) : sProp 𝕄) := by
  rw [← bigSep_sep']; exact .rfl
theorem l_in :
    iprop(bigSep Finset.univ (aHold m c) ∗ bigSep Finset.univ (any xM c) ∗ bigSep Finset.univ fun k : Fin 4 => tok c (nl k)) ⊢ (bigSep Finset.univ (lIn m c) : sProp 𝕄) := by
  rw [← bigSep_sep', ← bigSep_sep']; exact .rfl
/-- What the signals hand over, besides the own block. -/
theorem g_in :
    iprop(bigSep Finset.univ (any rM c) ∗ bigSep Finset.univ (any pM c) ∗ bigSep Finset.univ fun k : Fin 8 => dutyTok ER (bcell (bt c k)) 0 (bd c k))
      ⊢ (iprop(any pM c (qc c) ∗ bigSep Finset.univ (gIn c)) : sProp 𝕄) := by
  have e : (bigSep Finset.univ (gIn c) : sProp 𝕄)
      = iprop((bigSep Finset.univ fun k : Fin 8 => dutyTok ER (bcell (bt c k)) 0 (bd c k)) ∗ bigSep Finset.univ fun k : Fin 8 => barPay (bt c k) (bd c k)) := by
    rw [← bigSep_sep']; rfl
  rw [e, give_all, fin8 (fun k => barPay (bt c k) (bd c k))]
  iintro ⟨Hr, ⟨Hq, P3, P4, P5, P6, P7⟩, Ht⟩
  ihave Hr := (give_rM c) $$ Hr
  icases Hr with ⟨P0, P1, P2⟩
  iframe

/-- All a device starts with, as its body takes it. -/
theorem body_in :
    iprop(lin c ∗ creds c ∗ bigSep Finset.univ (aHold m c) ∗ bigSep Finset.univ (any xM c) ∗ bigSep Finset.univ (any tM c)
        ∗ bigSep Finset.univ (any rM c) ∗ bigSep Finset.univ (any pM c))
      ⊢ (bodyIn m c : sProp 𝕄) := by
  unfold lin creds bodyIn
  rw [groups (fun n => pos c n)]
  iintro ⟨⟨⟨Hb, Pl, Ps, Pr, Pss, Prs⟩, Tl, Ts, Tr, Tss, Trs, Tb⟩, ⟨Cb, Cr, Crs⟩, A, Hx, Ht, Hr, Hp⟩
  ihave L := (l_in m c) $$ [A Hx Tl]
  · iframe A Hx Tl
  ihave G := (g_in c) $$ [Hr Hp Tb]
  · iframe Hr Hp Tb
  icases G with ⟨Hq, G⟩
  ihave Z := (z_in c) $$ [Pr Cr]
  · iframe Pr Cr
  ihave K := (tk_in c) $$ [Tss Trs]
  · iframe Tss Trs
  ihave W := (rs_in c) $$ [Prs Crs]
  · iframe Prs Crs
  icases W with ⟨W, X, Pq⟩
  ihave TT := (Entails.of_eq (bigSep_sep' Finset.univ (fun o : Fin 3 => (tok c (ns o) : sProp 𝕄)) (fun o => tok (zp c o) (nr o.rev))).symm) $$ [Ts Tr]
  · iframe Ts Tr
  ihave L := (Entails.of_eq (fin4 (lIn m c))) $$ L
  ihave G := (Entails.of_eq (fin8 (gIn c))) $$ G
  ihave Pl := (Entails.of_eq (fin4 (fun k => pos c (nl k)))) $$ Pl
  ihave Ht := (Entails.of_eq (fin3 (any tM c))) $$ Ht
  ihave TT := (Entails.of_eq (fin3 (fun o => iprop(tok c (ns o) ∗ tok (zp c o) (nr o.rev))))) $$ TT
  ihave Z := (Entails.of_eq (fin3 (zW c))) $$ Z
  ihave Ps := (Entails.of_eq (fin3 (fun o => pos c (ns o)))) $$ Ps
  ihave K := (Entails.of_eq (fin13 (tk c))) $$ K
  ihave Pss := (Entails.of_eq (fin13 (fun k => pos c (ss k)))) $$ Pss
  isplitl [L]; · iexact L
  isplitl [G]; · iexact G
  isplitl [Pl]; · iexact Pl
  isplitl [Cb Hb]; · iframe Cb Hb
  isplitl [Ht]; · iexact Ht
  isplitl [TT]; · iexact TT
  isplitl [Z]; · iexact Z
  isplitl [Ps]; · iexact Ps
  isplitl [Hq]; · iexact Hq
  isplitl [K]; · iexact K
  isplitl [W]; · iexact W
  isplitl [X]; · iexact X
  isplitl [Pq]; · iexact Pq
  iexact Pss

/-! ## Out -/

theorem hold_anys {n : ℕ} {e : EltTy} (M : Memref sig .tc .vmem (SB n) e) (f : Buf (Elt F) (M.view.loc (c : Thread nD τ))) :
    bigSep Finset.univ (hold M c fullShare f) ⊢ (bigSep Finset.univ (any M c) : sProp 𝕄) := bigSep_mono fun j _ => hold_any M c f j

theorem body_out :
    (bodyOut m c : sProp 𝕄) ⊢ iprop(bigSep Finset.univ (aHold m c)
      ∗ (bigSep Finset.univ (any xM c) ∗ bigSep Finset.univ (any tM c) ∗ bigSep Finset.univ (any rM c) ∗ bigSep Finset.univ (any pM c))
      ∗ (bigSep Finset.univ fun n : Fin 31 => fin c n) ∗ semVal (bcell c) 0) := by
  unfold bodyOut lOut nOut zOut
  rw [groups (fun n => fin c n)]
  iintro ⟨⟨⟨F0, X0, A0⟩, ⟨F1, X1, A1⟩, ⟨F2, X2, A2⟩, ⟨F3, X3, A3⟩⟩, Hb, ⟨⟨N0, T0⟩, ⟨N1, T1⟩, ⟨N2, T2⟩⟩, ⟨⟨Z0, R0⟩, ⟨Z1, R1⟩, ⟨Z2, R2⟩⟩, ⟨Hp, Frs⟩, Fss⟩
  ihave Hp := (hold_anys c pM (PV m c)) $$ Hp
  ihave A := (Entails.of_eq (fin4 (aHold m c)).symm) $$ [A0 A1 A2 A3]
  · iframe A0 A1 A2 A3
  ihave X := (Entails.of_eq (fin4 (hold xM c fullShare (XS m c))).symm) $$ [X0 X1 X2 X3]
  · iframe X0 X1 X2 X3
  ihave X := (hold_anys c xM (XS m c)) $$ X
  ihave T := (Entails.of_eq (fin3 (hold tM c fullShare (ST m c))).symm) $$ [T0 T1 T2]
  · iframe T0 T1 T2
  ihave T := (hold_anys c tM (ST m c)) $$ T
  ihave R := (Entails.of_eq (fin3 (hold rM c fullShare (RV m c))).symm) $$ [R0 R1 R2]
  · iframe R0 R1 R2
  ihave R := (hold_anys c rM (RV m c)) $$ R
  ihave Fl := (Entails.of_eq (fin4 (fun k => (fin c (nl k) : sProp 𝕄))).symm) $$ [F0 F1 F2 F3]
  · iframe F0 F1 F2 F3
  ihave N := (Entails.of_eq (fin3 (fun o => (fin c (ns o) : sProp 𝕄))).symm) $$ [N0 N1 N2]
  · iframe N0 N1 N2
  ihave Z := (Entails.of_eq (fin3 (fun s => (fin c (nr s) : sProp 𝕄))).symm) $$ [Z0 Z1 Z2]
  · iframe Z0 Z1 Z2
  ihave Fss := (Entails.of_eq (fin13 (fun k => (fin c (ss k) : sProp 𝕄))).symm) $$ Fss
  iframe

end Cert.Proof
end
-- ==== Proof.Launch.lean ====
module

public import proofs.«01_k».proof.Proof.Ends
public import Idealize.ShloMosaic.Lib.Pipeline.CollectiveSegs

@[expose] public section

/-!
# The launch

The kernel called once on every device, from any memory with zero counters: it ends with the result written, the
arguments as they were and every counter at zero.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ)

/-- The second argument as the kernel's window holds it. -/
def gV (c : Dev nD) : (cc0_stg0_0 : Ref sig .tc).ty.Contents (Elt F) :=
  (win0_0.blk t0_0).view.read (Elt F) (m ((c : Thread nD τ).loc main_arg1))
/-- The result as the kernel's window holds it. -/
def resV (c : Dev nD) : (cc0_stg1_0 : Ref sig .tc).ty.Contents (Elt F) := outV m c (gV m c)

/-- What a device's body starts from, besides its stacks. -/
def start (c : Dev nD) : sProp 𝕄 := iprop(Gh' m c ∗ levAts L lv ∗ creds c ∗ aWhole m c)

/-- The four stacks, at any contents. -/
def stks (c : Dev nD) : sProp 𝕄 :=
  iprop((∃ f, (xM.view.loc (c : Thread nD τ)) ↦{fullShare} f) ∗ (∃ f, (tM.view.loc (c : Thread nD τ)) ↦{fullShare} f)
    ∗ (∃ f, (rM.view.loc (c : Thread nD τ)) ↦{fullShare} f) ∗ (∃ f, (pM.view.loc (c : Thread nD τ)) ↦{fullShare} f))

def Φ₀ (c : Dev nD) : sProp 𝕄 := iprop(start m c ∗ stks c)
def Φ₁ (c : Dev nD) : sProp 𝕄 :=
  iprop(aWhole m c ∗ stks c ∗ (bigSep Finset.univ fun n : Fin 31 => fin c n) ∗ semVal (bcell c) 0)

def dats (_ : Fin 1) (c : Dev nD) : Dat τ (Elt F) Unit ℕ UU ℕ cfg0 c where
  A w := m ((cfg0.win w).arr.view.loc (c : Thread nD τ))
  after w _ := match w with
    | ⟨0, _⟩ => gV m c
    | ⟨1, _⟩ => resV m c
  Φ t := match t with
    | ⟨0, _⟩ => Φ₀ m c
    | ⟨_ + 1, _⟩ => Φ₁ m c
  q _ := fullShare
  owed t := match t with
    | ⟨0, _⟩ => Ow c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A stack held whole is its slots. -/
theorem stack_slots {n : ℕ} {e : EltTy} (M : Memref sig .tc .vmem (SB n) e) (hM : M.view.set = Finset.univ) (c : Dev nD) :
    iprop(∃ f, (M.view.loc (c : Thread nD τ)) ↦{fullShare} f) ⊢ (bigSep Finset.univ (any M c) : sProp 𝕄) := by
  iintro ⟨%f, H⟩
  iapply (any_split M c f)
  rw [hM]; iexact H
theorem slots_stack {n : ℕ} {e : EltTy} (M : Memref sig .tc .vmem (SB n) e) (hM : M.view.set = Finset.univ) (c : Dev nD)
    (f₀ : Buf (Elt F) (M.view.loc (c : Thread nD τ))) :
    (bigSep Finset.univ (any M c) : sProp 𝕄) ⊢ iprop(∃ f, (M.view.loc (c : Thread nD τ)) ↦{fullShare} f) := by
  have h := any_join (Ix := Unit) (Name := ℕ) (U := UU) (Lvl := ℕ) M c f₀
  rw [hM] at h; exact h
theorem stacks_in (c : Dev nD) : (stks c : sProp 𝕄)
    ⊢ iprop(bigSep Finset.univ (any xM c) ∗ bigSep Finset.univ (any tM c) ∗ bigSep Finset.univ (any rM c) ∗ bigSep Finset.univ (any pM c)) := by
  unfold stks
  exact BIClass.sep_mono (stack_slots xM (View.set_whole _) c) (BIClass.sep_mono (stack_slots tM (View.set_whole _) c)
    (BIClass.sep_mono (stack_slots rM (View.set_whole _) c) (stack_slots pM (View.set_whole _) c)))
include m in
theorem stacks_out (c : Dev nD) : iprop(bigSep Finset.univ (any xM c) ∗ bigSep Finset.univ (any tM c) ∗ bigSep Finset.univ (any rM c) ∗ bigSep Finset.univ (any pM c))
    ⊢ (stks c : sProp 𝕄) := by
  unfold stks
  exact BIClass.sep_mono (slots_stack xM (View.set_whole _) c (XS m c)) (BIClass.sep_mono (slots_stack tM (View.set_whole _) c (ST m c))
    (BIClass.sep_mono (slots_stack rM (View.set_whole _) c (RV m c)) (slots_stack pM (View.set_whole _) c (PV m c))))

/-- The output's window before anything is written, and when all is. -/
theorem out_begin (c : Dev nD) (g : Buf (Elt F) (gM.view.loc (c : Thread nD τ))) (f : Buf (Elt F) (((c : Dev nD) : Thread nD τ).loc cc0_stg1_0)) :
    (((c : Thread nD τ).loc cc0_stg1_0) ↦{fullShare} f : sProp 𝕄) ⊢ O m c g 0 := by
  unfold O
  iintro H
  iexists f
  isplitr
  · ipureintro; intro i hi; omega
  · iexact H
theorem out_end (c : Dev nD) (g : Buf (Elt F) (gM.view.loc (c : Thread nD τ))) : O m c g 8 ⊢ (stg c cc0_stg1_0 (outV m c g) : sProp 𝕄) := by
  unfold O
  iintro ⟨%f, %hf, H⟩
  iexists f
  isplitr
  · ipureintro
    exact funext fun i => hf i (by have : (i 1).val < 1024 := (i 1).isLt; omega)
  · iexact H

/-! ## The body -/

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (gV m c) ∗ stg c cc0_stg1_0 (resV m c))

theorem ctx_of (κ : Dev nD × Fin 32 → ℕ) : iprop(levAts L lv ∗ recs m κ) ⊢ (ctx m κ : sProp 𝕄) := .rfl

set_option maxHeartbeats 8000000 in
theorem sound_body (c : Dev nD) :
    bodyPre m c ⊢ wp frame (wpE (defs₀ (F := F)) 𝒱₀ (c : Thread nD τ) none) Set.univ (app (cc0_body (F := F))) (fun _ => bodyPost m c) := by
  unfold bodyPre Φ₀ start Gh'
  iintro ⟨⟨⟨⟨%κ, #HR, Hl⟩, #Hlev, Hc, Ha⟩, Hs⟩, Ho, ⟨%d0, %g0, %hg0, Hx⟩, ⟨%d1, %g1, %hg1, Hout⟩⟩
  have hx : g0 = gV m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = Ow c 0 from rfl]
  ihave #Hctx := (ctx_of m κ) $$ [Hlev HR]
  · iframe Hlev HR
  ihave Ha := (a_split m c).1 $$ Ha
  icases Ha with ⟨⟨A0, B0⟩, ⟨A1, B1⟩, ⟨A2, B2⟩, ⟨A3, B3⟩⟩
  ihave A := (Entails.of_eq (fin4 (aHold m c)).symm) $$ [A0 A1 A2 A3]
  · iframe A0 A1 A2 A3
  ihave Hs := (stacks_in c) $$ Hs
  icases Hs with ⟨Sx, St, Sr, Sp⟩
  ihave Hin := (body_in m c) $$ [Hl Hc A Sx St Sr Sp]
  · iframe Hl Hc A Sx St Sr Sp
  ihave HO8 := (out_begin m c (gV m c) g1) $$ Hout
  ihave Ho : Owes c 0 $$ [HO]
  · unfold Owes; iexists W; iexact HO
  ihave HG : G c (gV m c) $$ [Hx]
  · unfold G; iexact Hx
  iapply (body_run m κ c (gV m c) (Φ := fun _ => bodyPost m c)) $$ [Hin HG HO8 Ho]
  · isplitr; · iexact Hctx
    isplitl [Hin]; · iexact Hin
    isplitl [HG]; · iexact HG
    isplitl [HO8]; · iexact HO8
    iexact Ho
  iintro ⟨Hb, HG, HO8, Ho⟩
  ihave Hb := (body_out m c) $$ Hb
  icases Hb with ⟨A, Hs, Hf, Hbar⟩
  ihave Hs := (stacks_out m c) $$ Hs
  ihave A := (Entails.of_eq (fin4 (aHold m c))) $$ A
  icases A with ⟨A0, A1, A2, A3⟩
  ihave Ha := (a_split m c).2 $$ [A0 A1 A2 A3 B0 B1 B2 B3]
  · iframe A0 A1 A2 A3 B0 B1 B2 B3
  unfold bodyPost Φ₁ Dat.owesAt Pipeline.owesWithin
  rw [show (dats m 0 c).owed t0_0.succ = 0 from rfl]
  isplitl [Ha Hs Hf Hbar]
  · iframe Ha Hs Hf Hbar
  isplitl [Ho]
  · unfold Owes; rw [Ow_end]
    icases Ho with ⟨%W', Ho⟩
    iexists W'
    isplitr; · ipureintro; exact fun _ _ => Or.inl trivial
    iexact Ho
  isplitl [HG]
  · iexists _; isplitr; · (ipureintro; rfl)
    unfold G; iexact HG
  ihave HO8 := (out_end m c (gV m c)) $$ HO8
  iexact HO8

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (app (cc0_body (F := F))) (fun _ => bodyPost m c)
  exact sound_body m c

/-! ## The launch's side conditions -/

theorem share_eq (c : Dev nD) (w : Fin cfg0.W) : (dats m 0 c).share w = fullShare := by unfold Dat.share; split <;> rfl

theorem lv_owed : ∀ (c : Dev nD) (i : ℕ), 0 < lv (pcell c i) () := by
  intro c i
  unfold pcell
  split
  · exact Nat.one_pos
  · split
    · have h : ∀ o : Fin 3, 0 < lv (dcell (zp c (Fin.ofNat 3 (i - 8))) (nr o)) () := by
        intro o; show 0 < if (7 + o.val + 2) < 9 then 0 else if (7 + o.val + 2) < 12 then 2 else _
        rw [if_neg (by omega), if_pos (by have := o.isLt; omega)]; exact Nat.two_pos
      exact h _
    · have h : ∀ (p : Dev nD) (j : Fin 8), 0 < lv (dcell p (rs j)) () := by
        intro p j; show 0 < if (23 + j.val + 2) < 9 then 0 else if (23 + j.val + 2) < 12 then 2 else if (23 + j.val + 2) < 25 then 0 else rlev _ _
        rw [if_neg (by omega), if_neg (by omega), if_neg (by omega)]
        unfold rlev; split
        · decide
        · split <;> decide
      exact h _ _

theorem mayWait_stage (c : Dev nD) (s : DmaSem sig) (hs : s.val < 2) (O : CellTallies nD τ sig Unit) (hO : O = Ow c 0 ∨ O = 0) :
    (levAts L lv : sProp 𝕄) ⊢ MayWait (c : Thread nD τ) (.dma s) () O := by
  rcases hO with rfl | rfl
  · exact mayWait c (.dma s) 0 0 (by show (if s.val < 9 then 0 else _) ≤ 0; rw [if_pos (by omega)]) fun i _ _ _ => lv_owed c i
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun c => Ow c 0) c ∗ prngReg c (ρ c) ∗ Gh' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start aWhole
  isplitl
  · isplitl [HG]; · iexact HG
    isplitl [Hlev]; · iexact Hlev
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ stks
  iintro ⟨Hs, -, Hr⟩
  isplitl [Hs]; · iexact Hs
  iexact Hr

theorem phi1_exit (c : Dev nD) :
    (dats m 0 c).Φ (Fin.last cfg0.N) ⊢ iprop((aWhole m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ stks
  iintro ⟨Ha, Hr, Hf, Hb⟩
  isplitl [Ha Hb]
  · iframe Ha Hb
  isplitl [Hf]; · iexact Hf
  iexact Hr

/-! ## The run -/

def finalA (c : Dev nD) (w : Fin cfg0.W) : Buf (Elt F) ((cfg0.win w).arr.view.loc (c : Thread nD τ)) := (dats m 0 c).arrAt w cfg0.N

/-- What the run leaves: the windows' arrays, the first argument, the counters. -/
def Post (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg0) = m ((c : Thread nD τ).loc main_arg0)) ∧ r.2.sem = fun _ => 0

/-- At the end the first argument and the counters are read off what the body returns. -/
theorem exit_read (c : Dev nD) (s' : Phys nD τ sig (Elt F)) :
    iprop((aWhole m c ∗ unscopedSems0 c) ∗ emp ∗ SI s')
      ⊢ |={Set.univ}=> iprop(⌜s'.mem.mem ((c : Thread nD τ).loc main_arg0) = m ((c : Thread nD τ).loc main_arg0)
        ∧ ∀ sm : SemLoc sig, sm.isScoped .tc = false → s'.mem.sem ((c.tc : Thread nD τ), sm) = 0⌝ ∗ SI s') := by
  unfold aWhole
  iintro ⟨⟨Ha, Hu⟩, -, HSI⟩
  imod (Pipeline.unscopedSems0_read (X := unscopedSems0 c) (c := c) fupd_intro s') $$ [Hu HSI] with ⟨%hs, HSI⟩
  · isplitl [Hu] <;> iassumption
  ihave %hx := (SI_pointsTo_agree (st := s') (ℓ := (c : Thread nD τ).loc main_arg0) (I := Finset.univ) (q := fullShare) (f := m ((c : Thread nD τ).loc main_arg0))) $$ [HSI Ha]
  · isplitl [HSI] <;> iassumption
  imodintro
  isplitr
  · ipureintro; exact ⟨Buf.eq_of_forall_mem_univ hx, hs⟩
  iexact HSI

theorem run_main (ρ : Dev nD → PrngReg) : θ_run defs (onTc (τ := τ) (main (F := F))) (s₀ m ρ) (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := fun c => Ow c 0) (howed₀ := fun _ => rfl) (howedN := fun _ => rfl)
    (L := L) (lv := lv) (hL := L_of_ne) (hwaits := waits m)
    (G := Gh m) (G' := Gh' m) (u₀ := u₀)
    (hu₀ := by
      unfold u₀
      iintro Hu
      ihave H := (ownU_pair _ _) $$ Hu
      icases H with ⟨HP, HX⟩
      imod (fund_k m) $$ HX with HG
      imodintro
      isplitl [HP] <;> iassumption)
    (hglob := glob m)
    (hA := fun _ _ => rfl) (hpf := fun _ k => k.elim0)
    (X := start m) (Y := fun c => iprop(aWhole m c ∗ unscopedSems0 c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => exit_read m c s')
    (hQ := fun _ h hs => ⟨fun c => ⟨(h c).1, (h c).2.2.1⟩, sem_eq_zero hs fun c => (h c).2.2.2⟩)

/-! ## The run read at the arrays -/

/-- Both arguments end as they were. -/
theorem Post_args {r : PUnit × MemSt nD τ sig (Elt F)} (h : Post m r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h.1 c).2, ((h.1 c).1 (0 : Fin 2)).trans ((dats m 0 c).arrAt_in (0 : Fin 2) rfl _)⟩

/-- The result's one block is the whole array, and so is the second argument's. -/
theorem read_res (f : (main_v1 : Ref sig .tc).ty.Contents (Elt F)) : (win0_1.blk t0_0).view.read (Elt F) f = f := by
  have hz : (fun a => (win0_1.index t0_0) a * main_v1.ty.shape.size a) = fun _ => 0 := funext fun a => by fin_cases a <;> decide
  exact Memref.read_access_unit_zero (Elt F) main_v1 hz (fun a => by fin_cases a <;> decide) f
theorem read_scale (f : (main_arg1 : Ref sig .tc).ty.Contents (Elt F)) : (win0_0.blk t0_0).view.read (Elt F) f = f := by
  have hz : (fun a => (win0_0.index t0_0) a * main_arg1.ty.shape.size a) = fun _ => 0 := funext fun a => by fin_cases a <;> decide
  exact Memref.read_access_unit_zero (Elt F) main_arg1 hz (fun a => by fin_cases a <;> decide) f

theorem finalA_o (c : Dev nD) : (win0_1.blk t0_0).view.read (Elt F) (finalA m c (1 : Fin 2)) = resV m c := by
  unfold finalA
  rw [show cfg0.N = (t0_0 : Fin cfg0.N).val + 1 from N_0, (dats m 0 c).arrAt_succ (1 : Fin 2) t0_0]
  rw [show (cfg0.win (1 : Fin 2)).flush t0_0 = true from by decide, if_pos rfl]
  exact View.read_write_univ _ _

/-- The result is the normalised rows of the reduced blocks. -/
theorem Post_res {r : PUnit × MemSt nD τ sig (Elt F)} (h : Post m r) (c : Dev nD) :
    r.2.mem ((c : Thread nD τ).loc main_v1) = outV m c (m ((c : Thread nD τ).loc main_arg1)) := by
  have e := finalA_o m c
  rw [read_res] at e
  unfold resV gV at e
  rw [read_scale] at e
  exact ((h.1 c).1 (1 : Fin 2)).trans e

end Cert.Proof
end
-- ==== Proof.Pure.lean ====
module

public import proofs.«01_k».proof.Proof.Gen.KernelIdeal.Skeleton
public import proofs.«01_k».proof.Proof.Gen.ReferenceIdeal.Run
public import Idealize.ShloMosaic.Lib.Pointwise

@[expose] public section

/-!
# The arithmetic read at an index

What the kernel's computed blocks and the reference's result hold at one position, over the extended reals; and the
law between the two normalisations.
-/

set_option maxRecDepth 16384

noncomputable section

namespace Cert.Proof.Pure

open Idealize.ShloMosaic

/-- The mean's divisor and the constant added to the mean. -/
abbrev cD : EReal := Ideal.ofBits .f32 0x44800000#32
abbrev cE : EReal := Ideal.ofBits .f32 0x358637BD#32

/-! ## The reference -/

section Ref
open Cert.ReferenceIdeal Cert.ReferenceIdeal.Gen

/-- One of the four parts at a row and a column, and the sum of the four. -/
def part (A : FVec Ideal S16384x1024 .f32) (p : Fin 4) (r : Fin 4096) (k : Fin 1024) : EReal :=
  A (ix2 ⟨p.val * 4096 + r.val, by have := p.isLt; have := r.isLt; omega⟩ k)
def total (A : FVec Ideal S16384x1024 .f32) (r : Fin 4096) (k : Fin 1024) : EReal := ∑ p : Fin 4, part A p r k

def refSum (A : FVec Ideal S16384x1024 .f32) : FVec Ideal S4096x1024 .f32 :=
  Host.reduceAdd (shapeCast _ A shapeCasts_S16384x1024_S4x4096x1024) (constant S_ .f32 0x00000000#32) reducesTo_S4x4096x1024_S4096x1024_d0 h_S_

theorem refSum_apply (A : FVec Ideal S16384x1024 .f32) (r : Fin 4096) (k : Fin 1024) : refSum A (ix2 r k) = total A r k := by
  unfold refSum total part
  pointwise

/-- The reference's result. -/
def refOut (A : FVec Ideal S16384x1024 .f32) (g : FVec Ideal S1x1024 .f32) : FVec Ideal S4096x1024 .f32 :=
  mulf (Host.divf (refSum A) (broadcastInDim S4096x1024 ![0, 1] bcast_S4096x1_S4096x1024_0_1
    (Host.sqrt (addf (Host.divf (broadcastInDim S4096x1 ![0] bcast_S4096_S4096x1_0
      (Host.reduceAdd (mulf (refSum A) (refSum A)) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 g)

theorem refOut_apply (A : FVec Ideal S16384x1024 .f32) (g : FVec Ideal S1x1024 .f32) (r : Fin 4096) (k : Fin 1024) :
    refOut A g (ix2 r k)
      = Ideal.div (total A r k) (Ideal.sqrt (Ideal.div (∑ l : Fin 1024, total A r l * total A r l) cD + cE)) * g (ix2 0 k) := by
  unfold refOut
  pointwise
  simp only [refSum_apply]
end Ref

/-! ## The kernel's blocks -/

section Ker
open Cert.KernelIdeal Cert.KernelIdeal.Gen

theorem pay4_apply (a b d : Vec Ideal S1x1024x128 .bf16) (e : Vec Ideal S1x1024x128 .f32) (r : Fin 1024) (k : Fin 128) :
    (k0_pay4 a b d e (ix2 r k) : EReal)
      = ((a (ix3 0 r k) : EReal) + (b (ix3 0 r k) : EReal)) + (d (ix3 0 r k) : EReal) + (e (ix3 0 r k) : EReal) := by
  pointwise [k0_pay4]

/-- A block's row of squares summed. -/
def sq (v : Vec Ideal S1x1024x128 .bf16) (r : Fin 1024) : EReal := ∑ k : Fin 128, (v (ix3 0 r k) : EReal) * (v (ix3 0 r k) : EReal)

theorem pay9_apply (v : Fin 8 → Vec Ideal S1x1024x128 .bf16) (r : Fin 1024) :
    (k0_pay9 (k0_pay7 k0_pay6 (v 0) (v 1) (v 2) (v 3) (v 4)) (k0_pay8 (v 5)) (v 6) (v 7) (ix2 r 0) : EReal)
      = Ideal.rsqrt (Ideal.div (∑ j : Fin 8, sq (v j) r) cD + cE) := by
  pointwise [k0_pay9, k0_pay8, k0_pay7, k0_pay6]
  rw [Fin.sum_univ_eight]
  rfl

theorem pay13_apply (n : FVec Ideal S1024x1 .f32) (v : Vec Ideal S1x1024x128 .bf16) (g : Vec Ideal S1x128 .f32) (r : Fin 1024) (k : Fin 128) :
    (k0_pay13 n v g (ix2 r k) : EReal) = ((v (ix3 0 r k) : EReal) * n (ix2 r 0)) * (g (ix2 0 k) : EReal) := by
  pointwise [k0_pay13]
end Ker

/-! ## The law -/

theorem div_sqrt {t : EReal} (ht : 0 < t) (x : EReal) : Ideal.div x (Ideal.sqrt t) = x * Ideal.rsqrt t := by
  induction t using EReal.rec with
  | bot => exact absurd ht (by simp)
  | top => simp [Ideal.div]
  | coe t =>
    have h : 0 < t := by exact_mod_cast ht
    have hs : Real.sqrt t ≠ 0 := (Real.sqrt_pos.mpr h).ne'
    rw [Ideal.sqrt_coe, Ideal.rsqrt_coe, if_neg h.le.not_gt, if_neg h.le.not_gt, if_neg h.ne', Ideal.div_coe hs, one_div]

theorem cE_pos : 0 < cE := by
  simp [cE, Ideal.ofBits, Ideal.ieee, -EReal.coe_mul]
theorem cD_eq : cD = ((1024 : ℝ) : EReal) := by
  simp [cD, Ideal.ofBits, Ideal.ieee, -EReal.coe_mul]; norm_num

theorem mul_self_nonneg (x : EReal) : 0 ≤ x * x := by
  induction x using EReal.rec with
  | bot => simp
  | top => simp
  | coe r => rw [← EReal.coe_mul]; exact_mod_cast _root_.mul_self_nonneg r

theorem mean_pos {s : EReal} (hs : 0 ≤ s) : 0 < Ideal.div s cD + cE := by
  rw [cD_eq, Ideal.div_coe (by norm_num)]
  have : 0 ≤ s * ((1 / 1024 : ℝ) : EReal) := mul_nonneg hs (by exact_mod_cast (by norm_num : (0:ℝ) ≤ 1/1024))
  exact lt_of_lt_of_le cE_pos (by simpa using add_le_add_left this cE)

end Cert.Proof.Pure
end
-- ==== Proof.Value.lean ====
module

public import proofs.«01_k».proof.Proof.Launch
public import proofs.«01_k».proof.Proof.Pure

@[expose] public section

/-!
# The value

At the extended reals, the kernel's result on a device is the device's block of the reference's.
-/

set_option maxRecDepth 100000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

/-- Rows and columns as indices. -/
abbrev p2 {n0 n1 : ℕ} (a : Fin n0) (b : Fin n1) : (⟨2, ![n0, n1]⟩ : Shape).Idx := Idealize.ShloMosaic.ix2 a b
abbrev p3 {n0 n1 n2 : ℕ} (a : Fin n0) (b : Fin n1) (c : Fin n2) : (⟨3, ![n0, n1, n2]⟩ : Shape).Idx := Idealize.ShloMosaic.ix3 a b c

theorem up_apply {e : EltTy} (v : S1024x128.Idx → Elt Ideal e) (r : Fin 1024) (k : Fin 128) : up (F := Ideal) v (p3 0 r k) = v (p2 r k) := by
  unfold up
  exact congrArg v (funext fun a => by fin_cases a <;> rfl)

theorem off1_eq : ∀ (c : Dev nD) (k : Fin 4), k0_off1 c (BitVec.ofNat 32 k.val) = ![1024 * ((c.val + k.val) % 4), 128 * (c.val / 4)] := by
  decide +kernel

/-- The row and the column of a loaded block's position in the argument. -/
def row (z : Fin 4) (r : Fin 1024) : Fin 4096 := ⟨1024 * z.val + r.val, by have := z.isLt; have := r.isLt; omega⟩
def col (q : Fin 8) (k : Fin 128) : Fin 1024 := ⟨128 * q.val + k.val, by have := q.isLt; have := k.isLt; omega⟩

variable (m : (ℓ : Loc nD τ sig) → Buf (Elt Ideal) ℓ)

theorem ld_apply (c : Dev nD) (o z : Fin 4) (hz : (c.val + o.val) % 4 = z.val) (r : Fin 1024) (k : Fin 128) :
    ldV m c o (p2 r k) = X m c (p2 (row z r) (col (qc c) k) : S4096x1024.Idx) := by
  show X m c ((Rect.unit (s := S4096x1024) (k0_off1 c (BitVec.ofNat 32 o.val)) S1024x128.size (k0_off1_inb c o)).emb (p2 r k)) = _
  refine congrArg (X m c) (funext fun a => Fin.ext ?_)
  have h := off1_eq c o
  fin_cases a
  · show k0_off1 c (BitVec.ofNat 32 o.val) 0 + 1 * r.val = 1024 * z.val + r.val
    rw [h]; show 1024 * ((c.val + o.val) % 4) + 1 * r.val = _; rw [hz]; omega
  · show k0_off1 c (BitVec.ofNat 32 o.val) 1 + 1 * k.val = 128 * (c.val / 4) + k.val
    rw [h]; show 128 * (c.val / 4) + 1 * k.val = _; omega

variable (A : FVec Ideal Cert.ReferenceIdeal.S16384x1024 .f32)

/-- The devices hold the four parts of the whole argument, along the last axis of the mesh. -/
def Holds : Prop := ∀ (c : Dev nD) (R : Fin 4096) (C : Fin 1024), (X m c (p2 R C : S4096x1024.Idx) : EReal) = Pure.part A (zc c) R C

variable {m A}

/-- What device `d` sends or keeps, at a row and a column of its block. -/
theorem st_apply (h : Holds m A) (d : Dev nD) (s : Fin 3) (r : Fin 1024) (k : Fin 128) :
    (stV m (zsrc d s) s.rev (p2 r k) : EReal) = Pure.part A (zc (zsrc d s)) (row (zc d) r) (col (qc d) k) := by
  have hz : ((zsrc d s).val + s.rev.succ.val) % 4 = (zc d).val := by revert d s; decide +kernel
  have hq : qc (zsrc d s) = qc d := by revert d s; decide +kernel
  show (ldV m (zsrc d s) s.rev.succ (p2 r k) : EReal) = _
  rw [ld_apply m _ _ _ hz, hq]
  exact h _ _ _

/-- The four parts, from any of the four devices on. -/
theorem parts_sum (f : Fin 4 → EReal) : ∀ d : Dev nD,
    f (zc (zsrc d 0)) + f (zc (zsrc d 1)) + f (zc (zsrc d 2)) + f (zc d) = ∑ p : Fin 4, f p := by
  intro d
  have hz : ∀ d : Dev nD, zc (zsrc d 0) = zc d + 1 ∧ zc (zsrc d 1) = zc d + 2 ∧ zc (zsrc d 2) = zc d + 3 := by decide +kernel
  obtain ⟨h0, h1, h2⟩ := hz d
  rw [h0, h1, h2]
  generalize zc d = z
  rw [Fin.sum_univ_four]
  fin_cases z
  · show f 1 + f 2 + f 3 + f 0 = _; ac_rfl
  · show f 2 + f 3 + f 0 + f 1 = _; ac_rfl
  · show f 3 + f 0 + f 1 + f 2 = _; ac_rfl
  · show f 0 + f 1 + f 2 + f 3 = _; ac_rfl

/-- A reduced block is the sum of the four parts at its rows and columns. -/
theorem y_apply (h : Holds m A) (d : Dev nD) (r : Fin 1024) (k : Fin 128) :
    (yV m d (p2 r k) : EReal) = Pure.total A (row (zc d) r) (col (qc d) k) := by
  unfold yV
  refine (Pure.pay4_apply _ _ _ _ r k).trans ?_
  rw [up_apply, up_apply, up_apply, up_apply]
  refine (congrArg₂ (· + ·) (congrArg₂ (· + ·) (congrArg₂ (· + ·) (st_apply h d 0 r k) (st_apply h d 1 r k)) (st_apply h d 2 r k))
    (((ld_apply m d 0 (zc d) rfl r k)).trans (h _ _ _))).trans ?_
  exact parts_sum (fun p => Pure.part A p (row (zc d) r) (col (qc d) k)) d

theorem yB_apply (h : Holds m A) (c : Dev nD) (j : Fin 8) (r : Fin 1024) (k : Fin 128) :
    (yB m c j (p3 0 r k) : EReal) = Pure.total A (row (zc c) r) (col j k) := by
  have hz : zc (dv j (zc c)) = zc c := by revert c j; decide +kernel
  have hq : qc (dv j (zc c)) = j := by revert c j; decide +kernel
  unfold yB
  rw [up_apply]
  refine (y_apply h (dv j (zc c)) r k).trans ?_
  rw [hz, hq]

/-- A sum over the columns, block by block. -/
theorem sum_cols (f : Fin 1024 → EReal) : ∑ j : Fin 8, ∑ k : Fin 128, f (col j k) = ∑ l : Fin 1024, f l := by
  rw [← Fintype.sum_prod_type']
  refine Fintype.sum_equiv (finProdFinEquiv (m := 8) (n := 128)) _ _ fun x => congrArg f (Fin.ext ?_)
  show 128 * x.1.val + x.2.val = x.2.val + 128 * x.1.val
  omega

theorem rV_apply (h : Holds m A) (c : Dev nD) (r : Fin 1024) :
    (rV m c (p2 r 0) : EReal) = Ideal.rsqrt (Ideal.div (∑ l : Fin 1024, Pure.total A (row (zc c) r) l * Pure.total A (row (zc c) r) l) Pure.cD + Pure.cE) := by
  unfold rV
  refine (Pure.pay9_apply (yB m c) r).trans ?_
  rw [← sum_cols]
  have e : ∀ j : Fin 8, Pure.sq (yB m c j) r = ∑ k : Fin 128, Pure.total A (row (zc c) r) (col j k) * Pure.total A (row (zc c) r) (col j k) := by
    intro j
    unfold Pure.sq
    exact Finset.sum_congr rfl fun k _ => congrArg₂ (· * ·) (yB_apply h c j r k) (yB_apply h c j r k)
  rw [Finset.sum_congr rfl fun j _ => e j]

/-- The result of device `c` is its rows of the reference's. -/
theorem out_apply (h : Holds m A) (c : Dev nD) (g : FVec Ideal S1x1024 .f32) (r : Fin 1024) (C : Fin 1024) :
    (outV m c g (p2 r C : S1024x1024.Idx) : EReal) = Pure.refOut A g (p2 (row (zc c) r) C) := by
  rw [Pure.refOut_apply, Pure.div_sqrt (Pure.mean_pos (Finset.sum_nonneg fun l _ => Pure.mul_self_nonneg _))]
  have hc : col (oj (p2 r C)) ⟨C.val % 128, Nat.mod_lt _ (by decide)⟩ = C :=
    Fin.ext (by show 128 * (C.val / 128) + C.val % 128 = C.val; omega)
  have hx : ox2 (p2 r C : S1024x1024.Idx) = p2 r ⟨C.val % 128, Nat.mod_lt _ (by decide)⟩ := by funext a; fin_cases a <;> rfl
  show (bV m c g (oj (p2 r C)) (ox2 (p2 r C)) : EReal) = _
  rw [hx]
  unfold bV
  refine (Pure.pay13_apply _ _ _ _ _).trans ?_
  refine congrArg₂ (· * ·) (congrArg₂ (· * ·) ((yB_apply h c _ r _).trans ?_) (rV_apply h c r)) ?_
  · rw [hc]
  · show (g ((rG (oj (p2 r C))).emb (p2 0 _)) : EReal) = g (p2 0 C)
    refine congrArg g (funext fun a => Fin.ext ?_)
    fin_cases a
    · rfl
    · show 128 * (C.val / 128) + 1 * (C.val % 128) = C.val; omega

theorem lin_eq : ∀ c : Dev nD, Layout.meshLin [2, 4, 4] c.val [2] = c.val % 4 := by decide +kernel

/-- Dealing the whole argument over the last axis of the mesh. -/
theorem holds_of (h : ∀ c : Dev nD, X m c = Layout.blockN ⟨2, ![4096, 1024]⟩ ⟨2, ![16384, 1024]⟩ (Layout.meshBlock [2, 4, 4] ![[2], []] c) A) : Holds m A := by
  intro c R C
  rw [h c]
  unfold Pure.part
  show A _ = A _
  refine congrArg A (funext fun a => Fin.ext ?_)
  fin_cases a
  · show Layout.meshLin [2, 4, 4] c.val [2] * 4096 + R.val = (c.val % 4) * 4096 + R.val; rw [lin_eq]
  · show 0 * 1024 + C.val = C.val; omega

/-- The result is the device's block of the reference's. -/
theorem out_block (h : Holds m A) (c : Dev nD) (g : FVec Ideal S1x1024 .f32) :
    outV m c g = Layout.blockN ⟨2, ![1024, 1024]⟩ ⟨2, ![4096, 1024]⟩ (Layout.meshBlock [2, 4, 4] ![[2], []] c) (Pure.refOut A g) := by
  funext i
  have hi : i = (p2 (i 0) (i 1) : S1024x1024.Idx) := by funext a; fin_cases a <;> rfl
  rw [hi]
  refine (out_apply h c g _ _).trans ?_
  show Pure.refOut A g _ = Pure.refOut A g _
  refine congrArg (Pure.refOut A g) (funext fun a => Fin.ext ?_)
  fin_cases a
  · show 1024 * (c.val % 4) + (i 0).val = Layout.meshLin [2, 4, 4] c.val [2] * 1024 + (i 0).val; rw [lin_eq]; omega
  · show (i 1).val = 0 * 1024 + (i 1).val; omega

end Cert.Proof
end
-- ==== Proof.lean ====
/-
  The proof of `Cert.Claim`. The run of the kernel is Proof/Launch.lean's `run_main`, written once for any float values:
  `Kernel` and `KernelIdeal` are one text read at two of them. The modules it rests on, in the order they build on each
  other: Mesh (the tables of the mesh), Offs (the kernel's computed offsets), Slots (a stack and its slots), Sched (the
  counters' schedules and what each signal hands over), Steps, Guards and Access (the body's operations as rules), Moves,
  Reduce and Norm (the body's parts), Deal and Run (the body whole), Fund, Credit and Ends (what the launch deals out).
  Pure reads the arithmetic at an index, and Value shows the result to be the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Pure
public import proofs.«01_k».proof.Proof.Value
public import Idealize.ShloMosaic.Adequacy
public import Idealize.ShloMosaic.Init

@[expose] public section

noncomputable section

namespace Cert.Proof

open Idealize.ShloMosaic Idealize.SL.Sem

/-- The kernel runs to its end from any memory, leaves its arguments, and ends with every counter at zero. -/
theorem frame_ideal : Cert.quiescent_KernelIdeal := fun m ρ _ =>
  (θ_run Cert.KernelIdeal.defs _ _).mono (fun _ h => ⟨Post_args m h, h.2⟩) (run_main (F := Ideal) m ρ)
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨Post_args m h, h.2⟩) (run_main (F := Bits) m ρ)

/-- The two programs are one text: their bodies, and so their body tables, are equal. -/
theorem defs₀_eq : (Cert.Kernel.defs₀ (F := Bits)) = (Cert.KernelIdeal.defs₀ (F := Bits)) :=
  congrArg Defs.onTc (funext fun l => funext fun x => match l, x with
    | ⟨0, _⟩, (_, _) => rfl
    | ⟨_ + 1, h⟩, _ => absurd h (Nat.not_lt.2 (Nat.le_add_left _ _)))
theorem defs_eq : (Cert.Kernel.defs (F := Bits)) = (Cert.KernelIdeal.defs (F := Bits)) :=
  congrArg (Pipeline.defs (Cert.KernelIdeal.pcfgs (F := Bits))) defs₀_eq
theorem frame_kernel : Cert.quiescent_Kernel := fun m ρ _ => by
  rw [defs_eq]
  exact frame_bits m ρ

/-- The reference likewise; it has no counter. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- At the extended reals both programs give one result: every device ends with its block of the reference's. -/
theorem algebraic : Cert.algebraic_KernelIdeal_ReferenceIdeal := by
  intro m ρ m' ρ' _ hagree
  refine ⟨Pure.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(Post_res m h c).trans ?_, Post_args m h c⟩) (run_main (F := Ideal) m ρ)
    have hA : Holds m (m' (((0 : Dev Cert.ReferenceIdeal.nD).tc : Thread Cert.ReferenceIdeal.nD Cert.ReferenceIdeal.τ).loc Cert.ReferenceIdeal.main_arg0)) :=
      holds_of fun c => (hagree c).1
    refine (congrArg (outV m c) (hagree c).2).trans ?_
    exact out_block hA c _
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_ref, trivial, algebraic⟩

end Cert.Proof

end
